-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_on_rows_compared [hKernelIdeal : Cert.KernelIdeal.Facts] [hReferenceIdeal : Cert.ReferenceIdeal.Facts] [hOn_rows_compared : Cert.On_rows_compared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 2048, 512]⟩ : Shape).Idx, (Cert.On_rows_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v23) i = v0 c i)
          ∧ (∀ i : (⟨3, ![1, 2048, 512]⟩ : Shape).Idx, (Cert.On_rows_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 i = 1#1 → r.2.mem ((c.tc : Thread Cert.KernelIdeal.nD Cert.KernelIdeal.τ).loc Cert.KernelIdeal.main_v24) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 2048, 512]⟩ : Shape).Idx, (Cert.On_rows_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_values) i = v0 c i)
          ∧ (∀ i : (⟨3, ![1, 2048, 512]⟩ : Shape).Idx, (Cert.On_rows_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hOn_rows_compared : Cert.On_rows_compared.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rows_compared (hKernelIdeal := hKernelIdeal) (hReferenceIdeal := hReferenceIdeal) (hOn_rows_compared := hOn_rows_compared)
-- ==== On_rows_compared.lean ====
abbrev S2048x2048 : Shape := ⟨2, ![2048, 2048]⟩
abbrev S2048x1536 : Shape := ⟨2, ![2048, 1536]⟩
abbrev S2048x64 : Shape := ⟨2, ![2048, 64]⟩
abbrev S128x2048 : Shape := ⟨2, ![128, 2048]⟩
abbrev S16x2048 : Shape := ⟨2, ![16, 2048]⟩
abbrev S128 : Shape := ⟨1, ![128]⟩
abbrev S128x128 : Shape := ⟨2, ![128, 128]⟩
abbrev S1x2048x2048 : Shape := ⟨3, ![1, 2048, 2048]⟩
abbrev S1x2048x1536 : Shape := ⟨3, ![1, 2048, 1536]⟩
abbrev S1536x2048 : Shape := ⟨2, ![1536, 2048]⟩
abbrev S1x2048x16x128 : Shape := ⟨4, ![1, 2048, 16, 128]⟩
abbrev S1x2048x16x64 : Shape := ⟨4, ![1, 2048, 16, 64]⟩
abbrev S1x2048x1x64 : Shape := ⟨4, ![1, 2048, 1, 64]⟩
abbrev S1x2048x16x32 : Shape := ⟨4, ![1, 2048, 16, 32]⟩
abbrev S2048x128 : Shape := ⟨2, ![2048, 128]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x64 : Shape := ⟨3, ![1, 2048, 64]⟩
abbrev S1x2048x32 : Shape := ⟨3, ![1, 2048, 32]⟩
abbrev S32768x128 : Shape := ⟨2, ![32768, 128]⟩
abbrev S2048x16 : Shape := ⟨2, ![2048, 16]⟩
abbrev S1x2048x16 : Shape := ⟨3, ![1, 2048, 16]⟩
abbrev S1x2048x16x2048 : Shape := ⟨4, ![1, 2048, 16, 2048]⟩
abbrev S2048 : Shape := ⟨1, ![2048]⟩
abbrev S2048x2048x2048 : Shape := ⟨3, ![2048, 2048, 2048]⟩
abbrev S1x2048x512 : Shape := ⟨3, ![1, 2048, 512]⟩

class Facts : Prop where
  shapeCasts_S2048x2048_S1x2048x2048 : S2048x2048.ShapeCasts S1x2048x2048
  shapeCasts_S2048x1536_S1x2048x1536 : S2048x1536.ShapeCasts S1x2048x1536
  transposes_S2048x1536_S1536x2048_1_0 : S2048x1536.Transposes [1, 0] S1536x2048
  shapeCasts_S1x2048x2048_S1x2048x16x128 : S1x2048x2048.ShapeCasts S1x2048x16x128
  slices_S1x2048x16x128_S1x2048x16x64_0_0_0_0 : S1x2048x16x128.Slices ![0, 0, 0, 0] S1x2048x16x64
  bcast_S2048x64_S1x2048x1x64_1_3 : S2048x64.BroadcastsInDim S1x2048x1x64 (![1, 3] : Fin 2 → Fin S1x2048x1x64.rank)
  slices_S1x2048x16x64_S1x2048x16x32_0_0_0_0 : S1x2048x16x64.Slices ![0, 0, 0, 0] S1x2048x16x32
  slices_S1x2048x16x64_S1x2048x16x32_0_0_0_32 : S1x2048x16x64.Slices ![0, 0, 0, 32] S1x2048x16x32
  concatenates_S1x2048x16x32_S1x2048x16x32_S1x2048x16x64_d3 : Shape.Concatenates [S1x2048x16x32, S1x2048x16x32] S1x2048x16x64 3
  bcast_S1x2048x1x64_S1x2048x16x64_0_1_2_3 : S1x2048x1x64.BroadcastsInDim S1x2048x16x64 (![0, 1, 2, 3] : Fin 4 → Fin S1x2048x16x64.rank)
  slices_S1x2048x16x128_S1x2048x16x64_0_0_0_64 : S1x2048x16x128.Slices ![0, 0, 0, 64] S1x2048x16x64
  concatenates_S1x2048x16x64_S1x2048x16x64_S1x2048x16x128_d3 : Shape.Concatenates [S1x2048x16x64, S1x2048x16x64] S1x2048x16x128 3
  transposes_S128x2048_S2048x128_1_0 : S128x2048.Transposes [1, 0] S2048x128
  reducesTo_S1x2048x128_S1x2048_d2 : S1x2048x128.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x128_0_1_2 : S1x2048x1.BroadcastsInDim S1x2048x128 (![0, 1, 2] : Fin 3 → Fin S1x2048x128.rank)
  bcast_S128_S1x1x128_2 : S128.BroadcastsInDim S1x1x128 (![2] : Fin 1 → Fin S1x1x128.rank)
  bcast_S1x1x128_S1x2048x128_0_1_2 : S1x1x128.BroadcastsInDim S1x2048x128 (![0, 1, 2] : Fin 3 → Fin S1x2048x128.rank)
  slices_S1x2048x128_S1x2048x64_0_0_0 : S1x2048x128.Slices ![0, 0, 0] S1x2048x64
  bcast_S2048x64_S1x2048x64_1_2 : S2048x64.BroadcastsInDim S1x2048x64 (![1, 2] : Fin 2 → Fin S1x2048x64.rank)
  slices_S1x2048x64_S1x2048x32_0_0_0 : S1x2048x64.Slices ![0, 0, 0] S1x2048x32
  slices_S1x2048x64_S1x2048x32_0_0_32 : S1x2048x64.Slices ![0, 0, 32] S1x2048x32
  concatenates_S1x2048x32_S1x2048x32_S1x2048x64_d2 : Shape.Concatenates [S1x2048x32, S1x2048x32] S1x2048x64 2
  slices_S1x2048x128_S1x2048x64_0_0_64 : S1x2048x128.Slices ![0, 0, 64] S1x2048x64
  concatenates_S1x2048x64_S1x2048x64_S1x2048x128_d2 : Shape.Concatenates [S1x2048x64, S1x2048x64] S1x2048x128 2
  shapeCasts_S1x2048x16x128_S32768x128 : S1x2048x16x128.ShapeCasts S32768x128
  shapeCasts_S32768x128_S1x2048x16x128 : S32768x128.ShapeCasts S1x2048x16x128
  shapeCasts_S1x2048x128_S2048x128 : S1x2048x128.ShapeCasts S2048x128
  shapeCasts_S2048x128_S1x2048x128 : S2048x128.ShapeCasts S1x2048x128
  transposes_S16x2048_S2048x16_1_0 : S16x2048.Transposes [1, 0] S2048x16
  bcast_S_S1x2048x16 : S_.BroadcastsInDim S1x2048x16 (![] : Fin 0 → Fin S1x2048x16.rank)
  bcast_S_S1x2048x16x2048 : S_.BroadcastsInDim S1x2048x16x2048 (![] : Fin 0 → Fin S1x2048x16x2048.rank)
  shapeCasts_S1x2048x2048_S2048x2048 : S1x2048x2048.ShapeCasts S2048x2048
  bcast_S_S2048x2048 : S_.BroadcastsInDim S2048x2048 (![] : Fin 0 → Fin S2048x2048.rank)
  reducesTo_S2048x2048_S2048_d1 : S2048x2048.ReducesTo [1] S2048
  bcast_S2048x2048_S2048x2048x2048_0_1 : S2048x2048.BroadcastsInDim S2048x2048x2048 (![0, 1] : Fin 2 → Fin S2048x2048x2048.rank)
  bcast_S2048x2048_S2048x2048x2048_0_2 : S2048x2048.BroadcastsInDim S2048x2048x2048 (![0, 2] : Fin 2 → Fin S2048x2048x2048.rank)
  bcast_S_S2048x2048x2048 : S_.BroadcastsInDim S2048x2048x2048 (![] : Fin 0 → Fin S2048x2048x2048.rank)
  reducesTo_S2048x2048x2048_S2048_d1_2 : S2048x2048x2048.ReducesTo [1, 2] S2048
  bcast_S2048_S1x2048x512_1 : S2048.BroadcastsInDim S1x2048x512 (![1] : Fin 1 → Fin S1x2048x512.rank)
  dot_S1x2048x1536_S1536x2048_S1x2048x2048_2_0_01_1_n_n_wf : DotDims.WF S1x2048x1536 S1536x2048 S1x2048x2048 [2] [0] [0, 1] [1] [] []
  dot_S1x2048x2048_S2048x128_S1x2048x128_2_0_01_1_n_n_wf : DotDims.WF S1x2048x2048 S2048x128 S1x2048x128 [2] [0] [0, 1] [1] [] []
  dot_S32768x128_S128x128_S32768x128_1_0_0_1_n_n_wf : DotDims.WF S32768x128 S128x128 S32768x128 [1] [0] [0] [1] [] []
  dot_S2048x128_S128x128_S2048x128_1_0_0_1_n_n_wf : DotDims.WF S2048x128 S128x128 S2048x128 [1] [0] [0] [1] [] []
  dot_S1x2048x2048_S2048x16_S1x2048x16_2_0_01_1_n_n_wf : DotDims.WF S1x2048x2048 S2048x16 S1x2048x16 [2] [0] [0, 1] [1] [] []
  dot_S1x2048x16x128_S1x2048x128_S1x2048x16x2048_3_2_12_1_0_0_wf : DotDims.WF S1x2048x16x128 S1x2048x128 S1x2048x16x2048 [3] [2] [1, 2] [1] [0] [0]
  dot_S1x2048x16_S1x2048x16x2048_S1x2048x2048_2_2_n_3_01_01_wf : DotDims.WF S1x2048x16 S1x2048x16x2048 S1x2048x2048 [2] [2] [] [3] [0, 1] [0, 1]

variable [Facts]

def dot_S1x2048x1536_S1536x2048_S1x2048x2048_2_0_01_1_n_n : DotDims S1x2048x1536 S1536x2048 S1x2048x2048 where
  lhsContracting := [2]
  rhsContracting := [0]
  lhsNonContracting := [0, 1]
  rhsNonContracting := [1]
  lhsBatch := []
  rhsBatch := []
  wf := dot_S1x2048x1536_S1536x2048_S1x2048x2048_2_0_01_1_n_n_wf
def dot_S1x2048x2048_S2048x128_S1x2048x128_2_0_01_1_n_n : DotDims S1x2048x2048 S2048x128 S1x2048x128 where
  lhsContracting := [2]
  rhsContracting := [0]
  lhsNonContracting := [0, 1]
  rhsNonContracting := [1]
  lhsBatch := []
  rhsBatch := []
  wf := dot_S1x2048x2048_S2048x128_S1x2048x128_2_0_01_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1x2048x2048_S2048x16_S1x2048x16_2_0_01_1_n_n : DotDims S1x2048x2048 S2048x16 S1x2048x16 where
  lhsContracting := [2]
  rhsContracting := [0]
  lhsNonContracting := [0, 1]
  rhsNonContracting := [1]
  lhsBatch := []
  rhsBatch := []
  wf := dot_S1x2048x2048_S2048x16_S1x2048x16_2_0_01_1_n_n_wf
def dot_S1x2048x16x128_S1x2048x128_S1x2048x16x2048_3_2_12_1_0_0 : DotDims S1x2048x16x128 S1x2048x128 S1x2048x16x2048 where
  lhsContracting := [3]
  rhsContracting := [2]
  lhsNonContracting := [1, 2]
  rhsNonContracting := [1]
  lhsBatch := [0]
  rhsBatch := [0]
  wf := dot_S1x2048x16x128_S1x2048x128_S1x2048x16x2048_3_2_12_1_0_0_wf
def dot_S1x2048x16_S1x2048x16x2048_S1x2048x2048_2_2_n_3_01_01 : DotDims S1x2048x16 S1x2048x16x2048 S1x2048x2048 where
  lhsContracting := [2]
  rhsContracting := [2]
  lhsNonContracting := []
  rhsNonContracting := [3]
  lhsBatch := [0, 1]
  rhsBatch := [0, 1]
  wf := dot_S1x2048x16_S1x2048x16x2048_S1x2048x2048_2_2_n_3_01_01_wf
def fn_where {F : FTy → Type} [FloatOps F] (arg0 : IVec S_ 1) (arg1 : FVec F S1x2048x1 .f32) (arg2 : FVec F S_ .f32) : FVec F S1x2048x1 .f32 :=
  let v0 : FVec F S_ .f32 := id arg2
  let v1 : FVec F S1x2048x1 .f32 := broadcastInDim S1x2048x1 ![] bcast_S_S1x2048x1 v0
  let v2 : FVec F S1x2048x1 .f32 := (fun p a b => select (broadcastInDim S1x2048x1 ![] bcast_S_S1x2048x1 p) a b) arg0 arg1 v1
  v2

def fn_var {F : FTy → Type} [FloatOps F] (arg0 : FVec F S1x2048x128 .f32) (arg1 : IVec S_ 32) : FVec F S1x2048x1 .f32 :=
  let cst : FVec F S_ .f32 := constant S_ .f32 0x00000000#32
  let v0 : FVec F S1x2048 .f32 := (fun x v => Host.reduceAdd x v reducesTo_S1x2048x128_S1x2048_d2 h_S_) arg0 cst
  let v1 : FVec F S1x2048x1 .f32 := broadcastInDim S1x2048x1 ![0, 1] bcast_S1x2048_S1x2048x1_0_1 v0
  let cst_0 : FVec F S_ .f32 := constant S_ .f32 0x43000000#32
  let v2 : FVec F S1x2048x1 .f32 := broadcastInDim S1x2048x1 ![] bcast_S_S1x2048x1 cst_0
  let v3 : FVec F S1x2048x1 .f32 := Host.divf v1 v2
  let v4 : FVec F S1x2048x128 .f32 := broadcastInDim S1x2048x128 ![0, 1, 2] bcast_S1x2048x1_S1x2048x128_0_1_2 v3
  let v5 : FVec F S1x2048x128 .f32 := subf arg0 v4
  let v6 : FVec F S1x2048x128 .f32 := mulf v5 v5
  let v7 : FVec F S_ .f32 := sitofp .f32 arg1
  let cst_1 : FVec F S_ .f32 := constant S_ .f32 0x43000000#32
  let v8 : FVec F S_ .f32 := subf cst_1 v7
  let cst_2 : FVec F S_ .f32 := constant S_ .f32 0x00000000#32
  let v9 : FVec F S1x2048 .f32 := (fun x v => Host.reduceAdd x v reducesTo_S1x2048x128_S1x2048_d2 h_S_) v6 cst_2
  let v10 : FVec F S1x2048x1 .f32 := broadcastInDim S1x2048x1 ![0, 1] bcast_S1x2048_S1x2048x1_0_1 v9
  let v11 : FVec F S1x2048x1 .f32 := broadcastInDim S1x2048x1 ![] bcast_S_S1x2048x1 v8
  let v12 : FVec F S1x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x2048x1 .f32 := fn_where (F := F) v13 v12 cst_4
  v14

def fn_relu {F : FTy → Type} [FloatOps F] (arg0 : FVec F S1x2048x16x2048 .f32) : FVec F S1x2048x16x2048 .f32 :=
  let cst : FVec F S_ .f32 := constant S_ .f32 0x00000000#32
  let v0 : FVec F S1x2048x16x2048 .f32 := broadcastInDim S1x2048x16x2048 ![] bcast_S_S1x2048x16x2048 cst
  let v1 : FVec F S1x2048x16x2048 .f32 := maximumf arg0 v0
  v1

def fn_part4 {F : FTy → Type} [FloatOps F] (main_v66 : FVec F S2048x2048 .f32) (main_v81 : IVec S2048 1) (main_v82 : IVec S2048x2048x2048 32) (main_v83 : IVec S2048x2048x2048 32) (main_v84 : IVec S2048x2048x2048 32) (main_v85 : FVec F S2048x2048x2048 .f32) : IVec S1x2048x512 1 × IVec S1x2048x512 1 :=
  let main_v86 : FVec F S2048x2048x2048 .f32 := broadcastInDim S2048x2048x2048 ![0, 2] bcast_S2048x2048_S2048x2048x2048_0_2 main_v66
  let main_v87 : IVec S2048x2048x2048 1 := cmpf .une main_v85 main_v86
  let main_cst_8 : FVec F S_ .f32 := constant S_ .f32 0x00000000#32
  let main_v88 : FVec F S2048x2048x2048 .f32 := broadcastInDim S2048x2048x2048 ![] bcast_S_S2048x2048x2048 main_cst_8
  let main_v89 : IVec S2048x2048x2048 1 := cmpf .oeq main_v85 main_v88
  let main_v90 : IVec S2048x2048x2048 1 := ori main_v87 main_v89
  let main_v91 : IVec S2048x2048x2048 1 := cmpi .sge main_v82 main_v83
  let main_v92 : IVec S2048x2048x2048 1 := ori main_v90 main_v91
  let main_v93 : IVec S2048x2048x2048 1 := cmpi .sgt main_v83 main_v84
  let main_v94 : IVec S2048x2048x2048 1 := ori main_v92 main_v93
  let main_c_9 : IVec S_ 1 := constantI S_ 1 1#1
  let main_v95 : IVec S2048 1 := (fun x v => Host.reduce IntOp.andi x v reducesTo_S2048x2048x2048_S2048_d1_2 h_S_) main_v94 main_c_9
  let main_v96 : IVec S2048 1 := andi main_v81 main_v95
  let main_v97 : IVec S1x2048x512 1 := broadcastInDim S1x2048x512 ![1] bcast_S2048_S1x2048x512_1 main_v81
  let main_v98 : IVec S1x2048x512 1 := broadcastInDim S1x2048x512 ![1] bcast_S2048_S1x2048x512_1 main_v96
  (main_v97, main_v98)

def fn_part3 {F : FTy → Type} [FloatOps F] (main_v65 : FVec F S1x2048x2048 .f32) : IVec S1x2048x512 1 × IVec S1x2048x512 1 :=
  let main_v66 : FVec F S2048x2048 .f32 := shapeCast S2048x2048 main_v65 shapeCasts_S1x2048x2048_S2048x2048
  let main_v67 : IVec S2048x2048 32 := iotaInDim S2048x2048 32 1
  let main_v68 : IVec S2048x2048 32 := iotaInDim S2048x2048 32 0
  let main_v69 : IVec S2048x2048 1 := cmpi .sle main_v67 main_v68
  let main_cst_4 : FVec F S_ .f32 := constant S_ .f32 0x00000000#32
  let main_v70 : FVec F S2048x2048 .f32 := broadcastInDim S2048x2048 ![] bcast_S_S2048x2048 main_cst_4
  let main_v71 : IVec S2048x2048 1 := cmpf .oeq main_v66 main_v70
  let main_v72 : FVec F S2048x2048 .f32 := Host.absf main_v66
  let main_cst_5 : FVec F S_ .f32 := constant S_ .f32 0x1E3CE508#32
  let main_v73 : FVec F S2048x2048 .f32 := broadcastInDim S2048x2048 ![] bcast_S_S2048x2048 main_cst_5
  let main_v74 : IVec S2048x2048 1 := cmpf .oge main_v72 main_v73
  let main_cst_6 : FVec F S_ .f32 := constant S_ .f32 0xCE6C08CE#32
  let main_v75 : FVec F S2048x2048 .f32 := broadcastInDim S2048x2048 ![] bcast_S_S2048x2048 main_cst_6
  let main_v76 : IVec S2048x2048 1 := cmpf .oge main_v66 main_v75
  let main_v77 : IVec S2048x2048 1 := andi main_v74 main_v76
  let main_v78 : IVec S2048x2048 1 := ori main_v71 main_v77
  let main_v79 : IVec S2048x2048 1 := noti main_v69
  let main_v80 : IVec S2048x2048 1 := ori main_v78 main_v79
  let main_c_7 : IVec S_ 1 := constantI S_ 1 1#1
  let main_v81 : IVec S2048 1 := (fun x v => Host.reduce IntOp.andi x v reducesTo_S2048x2048_S2048_d1 h_S_) main_v80 main_c_7
  let main_v82 : IVec S2048x2048x2048 32 := iotaInDim S2048x2048x2048 32 1
  let main_v83 : IVec S2048x2048x2048 32 := iotaInDim S2048x2048x2048 32 2
  let main_v84 : IVec S2048x2048x2048 32 := iotaInDim S2048x2048x2048 32 0
  let main_v85 : FVec F S2048x2048x2048 .f32 := broadcastInDim S2048x2048x2048 ![0, 1] bcast_S2048x2048_S2048x2048x2048_0_1 main_v66
  fn_part4 (F := F) main_v66 main_v81 main_v82 main_v83 main_v84 main_v85

def fn_part2 {F : FTy → Type} [FloatOps F] (main_arg6 : FVec F S16x2048 .f32) (main_arg9 : FVec F S128x128 .f32) (main_v0 : FVec F S1x2048x2048 .f32) (main_v18 : FVec F S1x2048x16x128 .f32) (main_v38 : FVec F S1x2048x128 .f32) (main_v39 : FVec F S1x2048x64 .f32) (main_v40 : FVec F S1x2048x64 .f32) (main_v41 : FVec F S1x2048x64 .f32) (main_v42 : FVec F S1x2048x32 .f32) (main_v43 : FVec F S1x2048x32 .f32) : IVec S1x2048x512 1 × IVec S1x2048x512 1 :=
  let main_v44 : FVec F S1x2048x32 .f32 := Host.negf main_v43
  let main_v45 : FVec F S1x2048x64 .f32 := (fun a b => concatenate S1x2048x64 2 [⟨S1x2048x32, a⟩, ⟨S1x2048x32, b⟩] concatenates_S1x2048x32_S1x2048x32_S1x2048x64_d2) main_v44 main_v42
  let main_v46 : FVec F S1x2048x64 .f32 := mulf main_v39 main_v40
  let main_v47 : FVec F S1x2048x64 .f32 := mulf main_v45 main_v41
  let main_v48 : FVec F S1x2048x64 .f32 := addf main_v46 main_v47
  let main_v49 : FVec F S1x2048x64 .f32 := (extractStridedSlice S1x2048x64 ![0, 0, 64] · slices_S1x2048x128_S1x2048x64_0_0_64) main_v38
  let main_v50 : FVec F S1x2048x128 .f32 := (fun a b => concatenate S1x2048x128 2 [⟨S1x2048x64, a⟩, ⟨S1x2048x64, b⟩] concatenates_S1x2048x64_S1x2048x64_S1x2048x128_d2) main_v48 main_v49
  let main_v51 : FVec F S32768x128 .f32 := shapeCast S32768x128 main_v18 shapeCasts_S1x2048x16x128_S32768x128
  let main_v52 : FVec F S32768x128 .f32 := (fun l r => Host.dotGeneral dot_S32768x128_S128x128_S32768x128_1_0_0_1_n_n none l r) main_v51 main_arg9
  let main_v53 : FVec F S1x2048x16x128 .f32 := shapeCast S1x2048x16x128 main_v52 shapeCasts_S32768x128_S1x2048x16x128
  let main_v54 : FVec F S2048x128 .f32 := shapeCast S2048x128 main_v50 shapeCasts_S1x2048x128_S2048x128
  let main_v55 : FVec F S2048x128 .f32 := (fun l r => Host.dotGeneral dot_S2048x128_S128x128_S2048x128_1_0_0_1_n_n none l r) main_v54 main_arg9
  let main_v56 : FVec F S1x2048x128 .f32 := shapeCast S1x2048x128 main_v55 shapeCasts_S2048x128_S1x2048x128
  let main_v57 : FVec F S2048x16 .f32 := (transpose S2048x16 [1, 0] · transposes_S16x2048_S2048x16_1_0) main_arg6
  let main_v58 : FVec F S1x2048x16 .f32 := (fun l r => Host.dotGeneral dot_S1x2048x2048_S2048x16_S1x2048x16_2_0_01_1_n_n none l r) main_v0 main_v57
  let main_cst_2 : FVec F S_ .f32 := constant S_ .f32 0x3E800000#32
  let main_v59 : FVec F S1x2048x16 .f32 := broadcastInDim S1x2048x16 ![] bcast_S_S1x2048x16 main_cst_2
  let main_v60 : FVec F S1x2048x16 .f32 := mulf main_v58 main_v59
  let main_v61 : FVec F S1x2048x16x2048 .f32 := (fun l r => Host.dotGeneral dot_S1x2048x16x128_S1x2048x128_S1x2048x16x2048_3_2_12_1_0_0 none l r) main_v53 main_v56
  let main_cst_3 : FVec F S_ .f32 := constant S_ .f32 0x3DB504F3#32
  let main_v62 : FVec F S1x2048x16x2048 .f32 := broadcastInDim S1x2048x16x2048 ![] bcast_S_S1x2048x16x2048 main_cst_3
  let main_v63 : FVec F S1x2048x16x2048 .f32 := mulf main_v61 main_v62
  let main_v64 : FVec F S1x2048x16x2048 .f32 := fn_relu (F := F) main_v63
  let main_v65 : FVec F S1x2048x2048 .f32 := (fun l r => Host.dotGeneral dot_S1x2048x16_S1x2048x16x2048_S1x2048x2048_2_2_n_3_01_01 none l r) main_v60 main_v64
  fn_part3 (F := F) main_v65

def fn_part1 {F : FTy → Type} [FloatOps F] (main_arg2 : FVec F S2048x64 .f32) (main_arg3 : FVec F S2048x64 .f32) (main_arg6 : FVec F S16x2048 .f32) (main_arg7 : FVec F S128 .f32) (main_arg8 : FVec F S128 .f32) (main_arg9 : FVec F S128x128 .f32) (main_v0 : FVec F S1x2048x2048 .f32) (main_v18 : FVec F S1x2048x16x128 .f32) (main_v20 : FVec F S1x2048x128 .f32) (main_v22 : FVec F S1x2048x1 .f32) : IVec S1x2048x512 1 × IVec S1x2048x512 1 :=
  let main_cst_0 : FVec F S_ .f32 := constant S_ .f32 0x43000000#32
  let main_v23 : FVec F S1x2048x1 .f32 := broadcastInDim S1x2048x1 ![] bcast_S_S1x2048x1 main_cst_0
  let main_v24 : FVec F S1x2048x1 .f32 := Host.divf main_v22 main_v23
  let main_c : IVec S_ 32 := constantI S_ 32 0#32
  let main_v25 : FVec F S1x2048x1 .f32 := fn_var (F := F) main_v20 main_c
  let main_v26 : FVec F S1x2048x128 .f32 := broadcastInDim S1x2048x128 ![0, 1, 2] bcast_S1x2048x1_S1x2048x128_0_1_2 main_v24
  let main_v27 : FVec F S1x2048x128 .f32 := subf main_v20 main_v26
  let main_cst_1 : FVec F S_ .f32 := constant S_ .f32 0x358637BD#32
  let main_v28 : FVec F S1x2048x1 .f32 := broadcastInDim S1x2048x1 ![] bcast_S_S1x2048x1 main_cst_1
  let main_v29 : FVec F S1x2048x1 .f32 := addf main_v25 main_v28
  let main_v30 : FVec F S1x2048x1 .f32 := Host.sqrt main_v29
  let main_v31 : FVec F S1x2048x128 .f32 := broadcastInDim S1x2048x128 ![0, 1, 2] bcast_S1x2048x1_S1x2048x128_0_1_2 main_v30
  let main_v32 : FVec F S1x2048x128 .f32 := Host.divf main_v27 main_v31
  let main_v33 : FVec F S1x1x128 .f32 := broadcastInDim S1x1x128 ![2] bcast_S128_S1x1x128_2 main_arg7
  let main_v34 : FVec F S1x2048x128 .f32 := broadcastInDim S1x2048x128 ![0, 1, 2] bcast_S1x1x128_S1x2048x128_0_1_2 main_v33
  let main_v35 : FVec F S1x2048x128 .f32 := mulf main_v32 main_v34
  let main_v36 : FVec F S1x1x128 .f32 := broadcastInDim S1x1x128 ![2] bcast_S128_S1x1x128_2 main_arg8
  let main_v37 : FVec F S1x2048x128 .f32 := broadcastInDim S1x2048x128 ![0, 1, 2] bcast_S1x1x128_S1x2048x128_0_1_2 main_v36
  let main_v38 : FVec F S1x2048x128 .f32 := addf main_v35 main_v37
  let main_v39 : FVec F S1x2048x64 .f32 := (extractStridedSlice S1x2048x64 ![0, 0, 0] · slices_S1x2048x128_S1x2048x64_0_0_0) main_v38
  let main_v40 : FVec F S1x2048x64 .f32 := broadcastInDim S1x2048x64 ![1, 2] bcast_S2048x64_S1x2048x64_1_2 main_arg2
  let main_v41 : FVec F S1x2048x64 .f32 := broadcastInDim S1x2048x64 ![1, 2] bcast_S2048x64_S1x2048x64_1_2 main_arg3
  let main_v42 : FVec F S1x2048x32 .f32 := (extractStridedSlice S1x2048x32 ![0, 0, 0] · slices_S1x2048x64_S1x2048x32_0_0_0) main_v39
  let main_v43 : FVec F S1x2048x32 .f32 := (extractStridedSlice S1x2048x32 ![0, 0, 32] · slices_S1x2048x64_S1x2048x32_0_0_32) main_v39
  fn_part2 (F := F) main_arg6 main_arg9 main_v0 main_v18 main_v38 main_v39 main_v40 main_v41 main_v42 main_v43

def fn {F : FTy → Type} [FloatOps F] (main_arg0 : FVec F S2048x2048 .f32) (main_arg1 : FVec F S2048x1536 .f32) (main_arg2 : FVec F S2048x64 .f32) (main_arg3 : FVec F S2048x64 .f32) (main_arg4 : FVec F S2048x1536 .f32) (main_arg5 : FVec F S128x2048 .f32) (main_arg6 : FVec F S16x2048 .f32) (main_arg7 : FVec F S128 .f32) (main_arg8 : FVec F S128 .f32) (main_arg9 : FVec F S128x128 .f32) : IVec S1x2048x512 1 × IVec S1x2048x512 1 :=
  let main_v0 : FVec F S1x2048x2048 .f32 := shapeCast S1x2048x2048 main_arg0 shapeCasts_S2048x2048_S1x2048x2048
  let main_v1 : FVec F S1x2048x1536 .f32 := shapeCast S1x2048x1536 main_arg1 shapeCasts_S2048x1536_S1x2048x1536
  let main_v2 : FVec F S1536x2048 .f32 := (transpose S1536x2048 [1, 0] · transposes_S2048x1536_S1536x2048_1_0) main_arg4
  let main_v3 : FVec F S1x2048x2048 .f32 := (fun l r => Host.dotGeneral dot_S1x2048x1536_S1536x2048_S1x2048x2048_2_0_01_1_n_n none l r) main_v1 main_v2
  let main_v4 : FVec F S1x2048x16x128 .f32 := shapeCast S1x2048x16x128 main_v3 shapeCasts_S1x2048x2048_S1x2048x16x128
  let main_v5 : FVec F S1x2048x16x64 .f32 := (extractStridedSlice S1x2048x16x64 ![0, 0, 0, 0] · slices_S1x2048x16x128_S1x2048x16x64_0_0_0_0) main_v4
  let main_v6 : FVec F S1x2048x1x64 .f32 := broadcastInDim S1x2048x1x64 ![1, 3] bcast_S2048x64_S1x2048x1x64_1_3 main_arg2
  let main_v7 : FVec F S1x2048x1x64 .f32 := broadcastInDim S1x2048x1x64 ![1, 3] bcast_S2048x64_S1x2048x1x64_1_3 main_arg3
  let main_v8 : FVec F S1x2048x16x32 .f32 := (extractStridedSlice S1x2048x16x32 ![0, 0, 0, 0] · slices_S1x2048x16x64_S1x2048x16x32_0_0_0_0) main_v5
  let main_v9 : FVec F S1x2048x16x32 .f32 := (extractStridedSlice S1x2048x16x32 ![0, 0, 0, 32] · slices_S1x2048x16x64_S1x2048x16x32_0_0_0_32) main_v5
  let main_v10 : FVec F S1x2048x16x32 .f32 := Host.negf main_v9
  let main_v11 : FVec F S1x2048x16x64 .f32 := (fun a b => concatenate S1x2048x16x64 3 [⟨S1x2048x16x32, a⟩, ⟨S1x2048x16x32, b⟩] concatenates_S1x2048x16x32_S1x2048x16x32_S1x2048x16x64_d3) main_v10 main_v8
  let main_v12 : FVec F S1x2048x16x64 .f32 := broadcastInDim S1x2048x16x64 ![0, 1, 2, 3] bcast_S1x2048x1x64_S1x2048x16x64_0_1_2_3 main_v6
  let main_v13 : FVec F S1x2048x16x64 .f32 := mulf main_v5 main_v12
  let main_v14 : FVec F S1x2048x16x64 .f32 := broadcastInDim S1x2048x16x64 ![0, 1, 2, 3] bcast_S1x2048x1x64_S1x2048x16x64_0_1_2_3 main_v7
  let main_v15 : FVec F S1x2048x16x64 .f32 := mulf main_v11 main_v14
  let main_v16 : FVec F S1x2048x16x64 .f32 := addf main_v13 main_v15
  let main_v17 : FVec F S1x2048x16x64 .f32 := (extractStridedSlice S1x2048x16x64 ![0, 0, 0, 64] · slices_S1x2048x16x128_S1x2048x16x64_0_0_0_64) main_v4
  let main_v18 : FVec F S1x2048x16x128 .f32 := (fun a b => concatenate S1x2048x16x128 3 [⟨S1x2048x16x64, a⟩, ⟨S1x2048x16x64, b⟩] concatenates_S1x2048x16x64_S1x2048x16x64_S1x2048x16x128_d3) main_v16 main_v17
  let main_v19 : FVec F S2048x128 .f32 := (transpose S2048x128 [1, 0] · transposes_S128x2048_S2048x128_1_0) main_arg5
  let main_v20 : FVec F S1x2048x128 .f32 := (fun l r => Host.dotGeneral dot_S1x2048x2048_S2048x128_S1x2048x128_2_0_01_1_n_n none l r) main_v0 main_v19
  let main_cst : FVec F S_ .f32 := constant S_ .f32 0x00000000#32
  let main_v21 : FVec F S1x2048 .f32 := (fun x v => Host.reduceAdd x v reducesTo_S1x2048x128_S1x2048_d2 h_S_) main_v20 main_cst
  let main_v22 : FVec F S1x2048x1 .f32 := broadcastInDim S1x2048x1 ![0, 1] bcast_S1x2048_S1x2048x1_0_1 main_v21
  fn_part1 (F := F) main_arg2 main_arg3 main_arg6 main_arg7 main_arg8 main_arg9 main_v0 main_v18 main_v20 main_v22
-- ==== Kernel.lean ====
abbrev S2048x2048 : Shape := ⟨2, ![2048, 2048]⟩
abbrev S2048x1536 : Shape := ⟨2, ![2048, 1536]⟩
abbrev S2048x64 : Shape := ⟨2, ![2048, 64]⟩
abbrev S128x2048 : Shape := ⟨2, ![128, 2048]⟩
abbrev S16x2048 : Shape := ⟨2, ![16, 2048]⟩
abbrev S128 : Shape := ⟨1, ![128]⟩
abbrev S128x128 : Shape := ⟨2, ![128, 128]⟩
abbrev S2048x128 : Shape := ⟨2, ![2048, 128]⟩
abbrev S2048x16 : Shape := ⟨2, ![2048, 16]⟩
abbrev S256x2048 : Shape := ⟨2, ![256, 2048]⟩
abbrev S256x128 : Shape := ⟨2, ![256, 128]⟩
abbrev S256x16 : Shape := ⟨2, ![256, 16]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S256x64 : Shape := ⟨2, ![256, 64]⟩
abbrev S256x32 : Shape := ⟨2, ![256, 32]⟩
abbrev S2048x512 : Shape := ⟨2, ![2048, 512]⟩
abbrev S256x1536 : Shape := ⟨2, ![256, 1536]⟩
abbrev S256x512 : Shape := ⟨2, ![256, 512]⟩
abbrev S256x1 : Shape := ⟨2, ![256, 1]⟩
abbrev S256x511 : Shape := ⟨2, ![256, 511]⟩
abbrev S256x510 : Shape := ⟨2, ![256, 510]⟩
abbrev S256x2 : Shape := ⟨2, ![256, 2]⟩
abbrev S256x508 : Shape := ⟨2, ![256, 508]⟩
abbrev S256x4 : Shape := ⟨2, ![256, 4]⟩
abbrev S256x504 : Shape := ⟨2, ![256, 504]⟩
abbrev S256x8 : Shape := ⟨2, ![256, 8]⟩
abbrev S256x496 : Shape := ⟨2, ![256, 496]⟩
abbrev S256x480 : Shape := ⟨2, ![256, 480]⟩
abbrev S256x448 : Shape := ⟨2, ![256, 448]⟩
abbrev S256x384 : Shape := ⟨2, ![256, 384]⟩
abbrev S256x256 : Shape := ⟨2, ![256, 256]⟩
abbrev S256x1024 : Shape := ⟨2, ![256, 1024]⟩
abbrev S256x1023 : Shape := ⟨2, ![256, 1023]⟩
abbrev S256x1022 : Shape := ⟨2, ![256, 1022]⟩
abbrev S256x1020 : Shape := ⟨2, ![256, 1020]⟩
abbrev S256x1016 : Shape := ⟨2, ![256, 1016]⟩
abbrev S256x1008 : Shape := ⟨2, ![256, 1008]⟩
abbrev S256x992 : Shape := ⟨2, ![256, 992]⟩
abbrev S256x960 : Shape := ⟨2, ![256, 960]⟩
abbrev S256x896 : Shape := ⟨2, ![256, 896]⟩
abbrev S256x768 : Shape := ⟨2, ![256, 768]⟩
abbrev S256x1535 : Shape := ⟨2, ![256, 1535]⟩
abbrev S256x1534 : Shape := ⟨2, ![256, 1534]⟩
abbrev S256x1532 : Shape := ⟨2, ![256, 1532]⟩
abbrev S256x1528 : Shape := ⟨2, ![256, 1528]⟩
abbrev S256x1520 : Shape := ⟨2, ![256, 1520]⟩
abbrev S256x1504 : Shape := ⟨2, ![256, 1504]⟩
abbrev S256x1472 : Shape := ⟨2, ![256, 1472]⟩
abbrev S256x1408 : Shape := ⟨2, ![256, 1408]⟩
abbrev S256x1280 : Shape := ⟨2, ![256, 1280]⟩
abbrev S256x2047 : Shape := ⟨2, ![256, 2047]⟩
abbrev S256x2046 : Shape := ⟨2, ![256, 2046]⟩
abbrev S256x2044 : Shape := ⟨2, ![256, 2044]⟩
abbrev S256x2040 : Shape := ⟨2, ![256, 2040]⟩
abbrev S256x2032 : Shape := ⟨2, ![256, 2032]⟩
abbrev S256x2016 : Shape := ⟨2, ![256, 2016]⟩
abbrev S256x1984 : Shape := ⟨2, ![256, 1984]⟩
abbrev S256x1920 : Shape := ⟨2, ![256, 1920]⟩
abbrev S256x1792 : Shape := ⟨2, ![256, 1792]⟩
abbrev S1x2048x512 : Shape := ⟨3, ![1, 2048, 512]⟩

abbrev nBuf : Space → Nat
  | .hbm => 63
  | .vmem => 32
  | .smem => 0
  | _ => 0

abbrev bufTy : (tb : Table) → Fin (tcTables nBuf tb) → BufTy
  | .hbm, ⟨0, _⟩ => ⟨S2048x2048, .f32⟩
  | .hbm, ⟨1, _⟩ => ⟨S2048x1536, .f32⟩
  | .hbm, ⟨2, _⟩ => ⟨S2048x64, .f32⟩
  | .hbm, ⟨3, _⟩ => ⟨S2048x64, .f32⟩
  | .hbm, ⟨4, _⟩ => ⟨S2048x1536, .f32⟩
  | .hbm, ⟨5, _⟩ => ⟨S128x2048, .f32⟩
  | .hbm, ⟨6, _⟩ => ⟨S16x2048, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S2048x128, .f32⟩
  | .hbm, ⟨11, _⟩ => ⟨S2048x16, .f32⟩
  | .hbm, ⟨12, _⟩ => ⟨S1x2048x128, .f32⟩
  | .hbm, ⟨13, _⟩ => ⟨S_, .f32⟩
  | .hbm, ⟨14, _⟩ => ⟨S1x2048, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S_, .i32⟩
  | .hbm, ⟨20, _⟩ => ⟨S_, .f32⟩
  | .hbm, ⟨21, _⟩ => ⟨S1x2048, .f32⟩
  | .hbm, ⟨22, _⟩ => ⟨S1x2048x1, .f32⟩
  | .hbm, ⟨23, _⟩ => ⟨S_, .f32⟩
  | .hbm, ⟨24, _⟩ => ⟨S1x2048x1, .f32⟩
  | .hbm, ⟨25, _⟩ => ⟨S1x2048x1, .f32⟩
  | .hbm, ⟨26, _⟩ => ⟨S1x2048x128, .f32⟩
  | .hbm, ⟨27, _⟩ => ⟨S1x2048x128, .f32⟩
  | .hbm, ⟨28, _⟩ => ⟨S1x2048x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x2048, .f32⟩
  | .hbm, ⟨34, _⟩ => ⟨S1x2048x1, .f32⟩
  | .hbm, ⟨35, _⟩ => ⟨S1x2048x1, .f32⟩
  | .hbm, ⟨36, _⟩ => ⟨S1x2048x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S1x2048x1, .f32⟩
  | .hbm, ⟨42, _⟩ => ⟨S1x2048x1, .f32⟩
  | .hbm, ⟨43, _⟩ => ⟨S1x2048x128, .f32⟩
  | .hbm, ⟨44, _⟩ => ⟨S1x2048x128, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S1x2048x1, .f32⟩
  | .hbm, ⟨49, _⟩ => ⟨S1x2048x128, .f32⟩
  | .hbm, ⟨50, _⟩ => ⟨S1x2048x128, .f32⟩
  | .hbm, ⟨51, _⟩ => ⟨S1x1x128, .f32⟩
  | .hbm, ⟨52, _⟩ => ⟨S1x2048x128, .f32⟩
  | .hbm, ⟨53, _⟩ => ⟨S1x2048x128, .f32⟩
  | .hbm, ⟨54, _⟩ => ⟨S1x1x128, .f32⟩
  | .hbm, ⟨55, _⟩ => ⟨S1x2048x128, .f32⟩
  | .hbm, ⟨56, _⟩ => ⟨S1x2048x128, .f32⟩
  | .hbm, ⟨57, _⟩ => ⟨S2048x128, .f32⟩
  | .hbm, ⟨58, _⟩ => ⟨S2048x128, .f32⟩
  | .hbm, ⟨59, _⟩ => ⟨S2048x512, .f32⟩
  | .hbm, ⟨60, _⟩ => ⟨S2048x512, .i32⟩
  | .hbm, ⟨61, _⟩ => ⟨S1x2048x512, .f32⟩
  | .hbm, ⟨62, _⟩ => ⟨S1x2048x512, .i32⟩
  | .local _ .vmem, ⟨0, _⟩ => ⟨S256x2048, .f32⟩
  | .local _ .vmem, ⟨1, _⟩ => ⟨S256x2048, .f32⟩
  | .local _ .vmem, ⟨2, _⟩ => ⟨S128x2048, .f32⟩
  | .local _ .vmem, ⟨3, _⟩ => ⟨S16x2048, .f32⟩
  | .local _ .vmem, ⟨4, _⟩ => ⟨S256x128, .f32⟩
  | .local _ .vmem, ⟨5, _⟩ => ⟨S256x128, .f32⟩
  | .local _ .vmem, ⟨6, _⟩ => ⟨S256x16, .f32⟩
  | .local _ .vmem, ⟨7, _⟩ => ⟨S256x16, .f32⟩
  | .local _ .vmem, ⟨8, _⟩ => ⟨S256x128, .f32⟩
  | .local _ .vmem, ⟨9, _⟩ => ⟨S256x128, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S128x128, .f32⟩
  | .local _ .vmem, ⟨15, _⟩ => ⟨S256x128, .f32⟩
  | .local _ .vmem, ⟨16, _⟩ => ⟨S256x128, .f32⟩
  | .local _ .vmem, ⟨17, _⟩ => ⟨S256x1536, .f32⟩
  | .local _ .vmem, ⟨18, _⟩ => ⟨S256x1536, .f32⟩
  | .local _ .vmem, ⟨19, _⟩ => ⟨S2048x1536, .f32⟩
  | .local _ .vmem, ⟨20, _⟩ => ⟨S256x64, .f32⟩
  | .local _ .vmem, ⟨21, _⟩ => ⟨S256x64, .f32⟩
  | .local _ .vmem, ⟨22, _⟩ => ⟨S256x64, .f32⟩
  | .local _ .vmem, ⟨23, _⟩ => ⟨S256x64, .f32⟩
  | .local _ .vmem, ⟨24, _⟩ => ⟨S256x16, .f32⟩
  | .local _ .vmem, ⟨25, _⟩ => ⟨S256x16, .f32⟩
  | .local _ .vmem, ⟨26, _⟩ => ⟨S128x128, .f32⟩
  | .local _ .vmem, ⟨27, _⟩ => ⟨S2048x128, .f32⟩
  | .local _ .vmem, ⟨28, _⟩ => ⟨S256x512, .f32⟩
  | .local _ .vmem, ⟨29, _⟩ => ⟨S256x512, .f32⟩
  | .local _ .vmem, ⟨30, _⟩ => ⟨S256x512, .i32⟩
  | .local _ .vmem, ⟨31, _⟩ => ⟨S256x512, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22_0 : Ref sig .tc := ⟨.hbm, 59, rfl⟩
abbrev main_v22_1 : Ref sig .tc := ⟨.hbm, 60, rfl⟩
abbrev main_v23 : Ref sig .tc := ⟨.hbm, 61, rfl⟩
abbrev main_v24 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v444 : BitVec 1 := Scalar.cmpi .eq arg0 c0_i32
  let v445 : BitVec 32 := Scalar.extui v444
  let c0_i32_98 : BitVec 32 := 0#32
  let v446 : BitVec 1 := Scalar.cmpi .ne v445 c0_i32_98
  v446

def k2_cond2 (i : grid2.Coords) : BitVec 1 :=
  let arg0 : BitVec 32 := BitVec.ofNat 32 (i 0).val
  let c1_i32 : BitVec 32 := 1#32
  let v447 : BitVec 1 := Scalar.cmpi .eq arg0 c1_i32
  let v448 : BitVec 32 := Scalar.extui v447
  let c0_i32_99 : BitVec 32 := 0#32
  let v449 : BitVec 1 := Scalar.cmpi .ne v448 c0_i32_99
  v449

def k2_cond3 (i : grid2.Coords) : BitVec 1 :=
  let arg0 : BitVec 32 := BitVec.ofNat 32 (i 0).val
  let c2_i32 : BitVec 32 := 2#32
  let v450 : BitVec 1 := Scalar.cmpi .eq arg0 c2_i32
  let v451 : BitVec 32 := Scalar.extui v450
  let c0_i32_100 : BitVec 32 := 0#32
  let v452 : BitVec 1 := Scalar.cmpi .ne v451 c0_i32_100
  v452

def k2_cond4 (i : grid2.Coords) : BitVec 1 :=
  let arg0 : BitVec 32 := BitVec.ofNat 32 (i 0).val
  let c3_i32 : BitVec 32 := 3#32
  let v453 : BitVec 1 := Scalar.cmpi .eq arg0 c3_i32
  let v454 : BitVec 32 := Scalar.extui v453
  let c0_i32_101 : BitVec 32 := 0#32
  let v455 : BitVec 1 := Scalar.cmpi .ne v454 c0_i32_101
  v455

def k2_cond5 (i : grid2.Coords) : BitVec 1 :=
  let arg0 : BitVec 32 := BitVec.ofNat 32 (i 0).val
  let c4_i32 : BitVec 32 := 4#32
  let v456 : BitVec 1 := Scalar.cmpi .eq arg0 c4_i32
  let v457 : BitVec 32 := Scalar.extui v456
  let c0_i32_102 : BitVec 32 := 0#32
  let v458 : BitVec 1 := Scalar.cmpi .ne v457 c0_i32_102
  v458

def k2_cond6 (i : grid2.Coords) : BitVec 1 :=
  let arg0 : BitVec 32 := BitVec.ofNat 32 (i 0).val
  let c5_i32 : BitVec 32 := 5#32
  let v459 : BitVec 1 := Scalar.cmpi .eq arg0 c5_i32
  let v460 : BitVec 32 := Scalar.extui v459
  let c0_i32_103 : BitVec 32 := 0#32
  let v461 : BitVec 1 := Scalar.cmpi .ne v460 c0_i32_103
  v461

def k2_cond7 (i : grid2.Coords) : BitVec 1 :=
  let arg0 : BitVec 32 := BitVec.ofNat 32 (i 0).val
  let c6_i32 : BitVec 32 := 6#32
  let v462 : BitVec 1 := Scalar.cmpi .eq arg0 c6_i32
  let v463 : BitVec 32 := Scalar.extui v462
  let c0_i32_104 : BitVec 32 := 0#32
  let v464 : BitVec 1 := Scalar.cmpi .ne v463 c0_i32_104
  v464

def k2_cond8 (i : grid2.Coords) : BitVec 1 :=
  let arg0 : BitVec 32 := BitVec.ofNat 32 (i 0).val
  let c7_i32 : BitVec 32 := 7#32
  let v465 : BitVec 1 := Scalar.cmpi .eq arg0 c7_i32
  let v466 : BitVec 32 := Scalar.extui v465
  let c0_i32_105 : BitVec 32 := 0#32
  let v467 : BitVec 1 := Scalar.cmpi .ne v466 c0_i32_105
  v467

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1536 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x512 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S2048x2048 : Shape := ⟨2, ![2048, 2048]⟩
abbrev S2048x1536 : Shape := ⟨2, ![2048, 1536]⟩
abbrev S2048x64 : Shape := ⟨2, ![2048, 64]⟩
abbrev S128x2048 : Shape := ⟨2, ![128, 2048]⟩
abbrev S16x2048 : Shape := ⟨2, ![16, 2048]⟩
abbrev S128 : Shape := ⟨1, ![128]⟩
abbrev S128x128 : Shape := ⟨2, ![128, 128]⟩
abbrev S1x2048x2048 : Shape := ⟨3, ![1, 2048, 2048]⟩
abbrev S1x2048x1536 : Shape := ⟨3, ![1, 2048, 1536]⟩
abbrev S1536x2048 : Shape := ⟨2, ![1536, 2048]⟩
abbrev S1x2048x16x128 : Shape := ⟨4, ![1, 2048, 16, 128]⟩
abbrev S1x2048x16x64 : Shape := ⟨4, ![1, 2048, 16, 64]⟩
abbrev S1x2048x1x64 : Shape := ⟨4, ![1, 2048, 1, 64]⟩
abbrev S1x2048x16x32 : Shape := ⟨4, ![1, 2048, 16, 32]⟩
abbrev S2048x128 : Shape := ⟨2, ![2048, 128]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x64 : Shape := ⟨3, ![1, 2048, 64]⟩
abbrev S1x2048x32 : Shape := ⟨3, ![1, 2048, 32]⟩
abbrev S32768x128 : Shape := ⟨2, ![32768, 128]⟩
abbrev S2048x16 : Shape := ⟨2, ![2048, 16]⟩
abbrev S1x2048x16 : Shape := ⟨3, ![1, 2048, 16]⟩
abbrev S1x2048x16x2048 : Shape := ⟨4, ![1, 2048, 16, 2048]⟩
abbrev S2048 : Shape := ⟨1, ![2048]⟩
abbrev S2048x1 : Shape := ⟨2, ![2048, 1]⟩
abbrev S1x2048x512 : Shape := ⟨3, ![1, 2048, 512]⟩

abbrev nBuf : Space → Nat
  | .hbm => 120
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1536, .f32⟩
  | .hbm, ⟨2, _⟩ => ⟨S2048x64, .f32⟩
  | .hbm, ⟨3, _⟩ => ⟨S2048x64, .f32⟩
  | .hbm, ⟨4, _⟩ => ⟨S2048x1536, .f32⟩
  | .hbm, ⟨5, _⟩ => ⟨S128x2048, .f32⟩
  | .hbm, ⟨6, _⟩ => ⟨S16x2048, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S1x2048x2048, .f32⟩
  | .hbm, ⟨11, _⟩ => ⟨S1x2048x1536, .f32⟩
  | .hbm, ⟨12, _⟩ => ⟨S1536x2048, .f32⟩
  | .hbm, ⟨13, _⟩ => ⟨S1x2048x2048, .f32⟩
  | .hbm, ⟨14, _⟩ => ⟨S1x2048x16x128, .f32⟩
  | .hbm, ⟨15, _⟩ => ⟨S1x2048x16x64, .f32⟩
  | .hbm, ⟨16, _⟩ => ⟨S1x2048x1x64, .f32⟩
  | .hbm, ⟨17, _⟩ => ⟨S1x2048x1x64, .f32⟩
  | .hbm, ⟨18, _⟩ => ⟨S1x2048x16x32, .f32⟩
  | .hbm, ⟨19, _⟩ => ⟨S1x2048x16x32, .f32⟩
  | .hbm, ⟨20, _⟩ => ⟨S1x2048x16x32, .f32⟩
  | .hbm, ⟨21, _⟩ => ⟨S1x2048x16x64, .f32⟩
  | .hbm, ⟨22, _⟩ => ⟨S1x2048x16x64, .f32⟩
  | .hbm, ⟨23, _⟩ => ⟨S1x2048x16x64, .f32⟩
  | .hbm, ⟨24, _⟩ => ⟨S1x2048x16x64, .f32⟩
  | .hbm, ⟨25, _⟩ => ⟨S1x2048x16x64, .f32⟩
  | .hbm, ⟨26, _⟩ => ⟨S1x2048x16x64, .f32⟩
  | .hbm, ⟨27, _⟩ => ⟨S1x2048x16x64, .f32⟩
  | .hbm, ⟨28, _⟩ => ⟨S1x2048x16x128, .f32⟩
  | .hbm, ⟨29, _⟩ => ⟨S2048x128, .f32⟩
  | .hbm, ⟨30, _⟩ => ⟨S1x2048x128, .f32⟩
  | .hbm, ⟨31, _⟩ => ⟨S_, .f32⟩
  | .hbm, ⟨32, _⟩ => ⟨S1x2048, .f32⟩
  | .hbm, ⟨33, _⟩ => ⟨S1x2048x1, .f32⟩
  | .hbm, ⟨34, _⟩ => ⟨S_, .f32⟩
  | .hbm, ⟨35, _⟩ => ⟨S1x2048x1, .f32⟩
  | .hbm, ⟨36, _⟩ => ⟨S1x2048x1, .f32⟩
  | .hbm, ⟨37, _⟩ => ⟨S_, .i32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S1x2048x128, .f32⟩
  | .hbm, ⟨45, _⟩ => ⟨S1x2048x128, .f32⟩
  | .hbm, ⟨46, _⟩ => ⟨S1x2048x128, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x2048, .f32⟩
  | .hbm, ⟨52, _⟩ => ⟨S1x2048x1, .f32⟩
  | .hbm, ⟨53, _⟩ => ⟨S1x2048x1, .f32⟩
  | .hbm, ⟨54, _⟩ => ⟨S1x2048x1, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S1x2048x1, .f32⟩
  | .hbm, ⟨60, _⟩ => ⟨S1x2048x1, .f32⟩
  | .hbm, ⟨61, _⟩ => ⟨S1x2048x128, .f32⟩
  | .hbm, ⟨62, _⟩ => ⟨S1x2048x128, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S1x2048x1, .f32⟩
  | .hbm, ⟨67, _⟩ => ⟨S1x2048x128, .f32⟩
  | .hbm, ⟨68, _⟩ => ⟨S1x2048x128, .f32⟩
  | .hbm, ⟨69, _⟩ => ⟨S1x1x128, .f32⟩
  | .hbm, ⟨70, _⟩ => ⟨S1x2048x128, .f32⟩
  | .hbm, ⟨71, _⟩ => ⟨S1x2048x128, .f32⟩
  | .hbm, ⟨72, _⟩ => ⟨S1x1x128, .f32⟩
  | .hbm, ⟨73, _⟩ => ⟨S1x2048x128, .f32⟩
  | .hbm, ⟨74, _⟩ => ⟨S1x2048x128, .f32⟩
  | .hbm, ⟨75, _⟩ => ⟨S1x2048x64, .f32⟩
  | .hbm, ⟨76, _⟩ => ⟨S1x2048x64, .f32⟩
  | .hbm, ⟨77, _⟩ => ⟨S1x2048x64, .f32⟩
  | .hbm, ⟨78, _⟩ => ⟨S1x2048x32, .f32⟩
  | .hbm, ⟨79, _⟩ => ⟨S1x2048x32, .f32⟩
  | .hbm, ⟨80, _⟩ => ⟨S1x2048x32, .f32⟩
  | .hbm, ⟨81, _⟩ => ⟨S1x2048x64, .f32⟩
  | .hbm, ⟨82, _⟩ => ⟨S1x2048x64, .f32⟩
  | .hbm, ⟨83, _⟩ => ⟨S1x2048x64, .f32⟩
  | .hbm, ⟨84, _⟩ => ⟨S1x2048x64, .f32⟩
  | .hbm, ⟨85, _⟩ => ⟨S1x2048x64, .f32⟩
  | .hbm, ⟨86, _⟩ => ⟨S1x2048x128, .f32⟩
  | .hbm, ⟨87, _⟩ => ⟨S32768x128, .f32⟩
  | .hbm, ⟨88, _⟩ => ⟨S32768x128, .f32⟩
  | .hbm, ⟨89, _⟩ => ⟨S1x2048x16x128, .f32⟩
  | .hbm, ⟨90, _⟩ => ⟨S2048x128, .f32⟩
  | .hbm, ⟨91, _⟩ => ⟨S2048x128, .f32⟩
  | .hbm, ⟨92, _⟩ => ⟨S1x2048x128, .f32⟩
  | .hbm, ⟨93, _⟩ => ⟨S2048x16, .f32⟩
  | .hbm, ⟨94, _⟩ => ⟨S1x2048x16, .f32⟩
  | .hbm, ⟨95, _⟩ => ⟨S_, .f32⟩
  | .hbm, ⟨96, _⟩ => ⟨S1x2048x16, .f32⟩
  | .hbm, ⟨97, _⟩ => ⟨S1x2048x16, .f32⟩
  | .hbm, ⟨98, _⟩ => ⟨S1x2048x16x2048, .f32⟩
  | .hbm, ⟨99, _⟩ => ⟨S_, .f32⟩
  | .hbm, ⟨100, _⟩ => ⟨S1x2048x16x2048, .f32⟩
  | .hbm, ⟨101, _⟩ => ⟨S1x2048x16x2048, .f32⟩
  | .hbm, ⟨102, _⟩ => ⟨S_, .f32⟩
  | .hbm, ⟨103, _⟩ => ⟨S1x2048x16x2048, .f32⟩
  | .hbm, ⟨104, _⟩ => ⟨S1x2048x16x2048, .f32⟩
  | .hbm, ⟨105, _⟩ => ⟨S1x2048x2048, .f32⟩
  | .hbm, ⟨106, _⟩ => ⟨S2048, .i32⟩
  | .hbm, ⟨107, _⟩ => ⟨S2048x1, .i32⟩
  | .hbm, ⟨108, _⟩ => ⟨S2048, .i32⟩
  | .hbm, ⟨109, _⟩ => ⟨S1x2048, .i32⟩
  | .hbm, ⟨110, _⟩ => ⟨S2048x2048, .i32⟩
  | .hbm, ⟨111, _⟩ => ⟨S2048x2048, .i32⟩
  | .hbm, ⟨112, _⟩ => ⟨S2048x2048, .i1⟩
  | .hbm, ⟨113, _⟩ => ⟨S1x2048x2048, .i1⟩
  | .hbm, ⟨114, _⟩ => ⟨S_, .f32⟩
  | .hbm, ⟨115, _⟩ => ⟨S_, .f32⟩
  | .hbm, ⟨116, _⟩ => ⟨S1x2048x2048, .f32⟩
  | .hbm, ⟨117, _⟩ => ⟨S1x2048x2048, .f32⟩
  | .hbm, ⟨118, _⟩ => ⟨S1x2048x512, .f32⟩
  | .hbm, ⟨119, _⟩ => ⟨S1x2048x512, .i32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_2 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_3 : Ref sig .tc := ⟨.hbm, 99, rfl⟩
abbrev main_v62 : Ref sig .tc := ⟨.hbm, 100, rfl⟩
abbrev main_v63 : Ref sig .tc := ⟨.hbm, 101, rfl⟩
abbrev main_call1_cst : Ref sig .tc := ⟨.hbm, 102, rfl⟩
abbrev main_call1_v0 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_4 : Ref sig .tc := ⟨.hbm, 114, rfl⟩
abbrev main_call2_v0 : Ref sig .tc := ⟨.hbm, 115, rfl⟩
abbrev main_call2_v1 : Ref sig .tc := ⟨.hbm, 116, rfl⟩
abbrev main_v74 : Ref sig .tc := ⟨.hbm, 117, rfl⟩
abbrev main_values : Ref sig .tc := ⟨.hbm, 118, rfl⟩
abbrev main_indices : Ref sig .tc := ⟨.hbm, 119, rfl⟩

abbrev nD : Nat := 1
abbrev τ : Topo := Topo.v7x

variable {F : FTy → Type} [FloatOps F]
-- ==== Proof.Ends.lean ====
/-
  What a run of the kernel leaves in memory: every buffer outside the calls at its contents after the last host line.
-/
module

public import proofs.«01_k».proof.Proof.Gen.KernelIdeal.Frame

@[expose] public section

set_option maxRecDepth 16384

noncomputable section

namespace Indexer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found in a metavariable's type
set_option backward.isDefEq.respectTransparency.types false in
/-- Every run ends, and ends with each of those buffers at the contents that follow the last host line. -/
theorem kernel_ends : θ_run defs (onTc (τ := τ) (main (F := F))) ⟨m, fun _ => 0, ρ⟩ (fun r => ∀ c : Dev nD, ∀ b ∈ Pipeline.ucRefs τ sig,
    r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Indexer
-- ==== Proof.Bitonic.lean ====
/-
  Bitonic sorting, on whole rows written as functions of the position. A compare-exchange at distance `2 ^ s` pairs the
  positions that differ in bit `s`. Everything is proved of one threshold at a time: a row of truth values says which
  elements are above the threshold, an exchange makes the conjunction of a pair at one end and the disjunction at the
  other, and a row is sorted when the true positions are its first (or its last) ones.
-/
module

public import Mathlib.Algebra.BigOperators.Intervals
public import Mathlib.Data.Nat.Bitwise
public import Mathlib.Tactic.Ring
public import Mathlib.Tactic.Positivity
public import Mathlib.Tactic.Tauto

@[expose] public section

namespace Indexer

open Finset

/-- Whether a position is the lower one of its pair at distance `2 ^ s`. -/
def Lower (s p : ℕ) : Prop := p % 2 ^ (s + 1) < 2 ^ s

instance (s p : ℕ) : Decidable (Lower s p) := inferInstanceAs (Decidable (_ < _))

/-- The other position of the pair. -/
def other (s p : ℕ) : ℕ := if Lower s p then p + 2 ^ s else p - 2 ^ s

/-- One exchange of truth values: where `D` and the position's side agree the pair's disjunction, else the conjunction. -/
def exch (s : ℕ) (D : ℕ → Prop) (b : ℕ → Prop) (p : ℕ) : Prop :=
  (Lower s p ↔ D p) ∧ (b p ∨ b (other s p)) ∨ ¬(Lower s p ↔ D p) ∧ (b p ∧ b (other s p))

/-- How many of the `n` positions from `base` on are true. -/
noncomputable def cnt (b : ℕ → Prop) (base n : ℕ) : ℕ := by
  classical exact ∑ i ∈ range n, if b (base + i) then 1 else 0

theorem cnt_add (b : ℕ → Prop) (base n m : ℕ) : cnt b base (n + m) = cnt b base n + cnt b (base + n) m := by
  classical
  unfold cnt
  rw [Finset.sum_range_add]
  simp only [Nat.add_assoc]

theorem cnt_congr {b b' : ℕ → Prop} {base base' n : ℕ} (h : ∀ i < n, (b (base + i) ↔ b' (base' + i))) :
    cnt b base n = cnt b' base' n := by
  classical
  unfold cnt
  refine Finset.sum_congr rfl fun i hi => ?_
  simp only [h i (Finset.mem_range.1 hi)]

theorem cnt_le (b : ℕ → Prop) (base n : ℕ) : cnt b base n ≤ n := by
  classical
  unfold cnt
  calc _ ≤ ∑ _i ∈ range n, 1 := Finset.sum_le_sum fun i _ => by split <;> omega
    _ = n := by simp

theorem cnt_lt (b : ℕ → Prop) (base n m : ℕ) (hm : m ≤ n) (h : ∀ i < n, (b (base + i) ↔ i < m)) : cnt b base n = m := by
  classical
  obtain ⟨k, rfl⟩ := Nat.exists_eq_add_of_le hm
  rw [cnt_add]
  have h1 : cnt b base m = m := by
    unfold cnt
    rw [Finset.sum_congr rfl (g := fun _ => 1) fun i hi => by
      have := Finset.mem_range.1 hi
      rw [if_pos ((h i (by omega)).2 this)]]
    simp
  have h2 : cnt b (base + m) k = 0 := by
    unfold cnt
    refine Finset.sum_eq_zero fun i hi => ?_
    have := Finset.mem_range.1 hi
    rw [if_neg fun hb => ?_]
    have := (h (m + i) (by omega)).1 (by rwa [← Nat.add_assoc])
    omega
  omega

theorem cnt_ge (b : ℕ → Prop) (base n m : ℕ) (hm : m ≤ n) (h : ∀ i < n, (b (base + i) ↔ ¬ i < m)) :
    cnt b base n = n - m := by
  classical
  obtain ⟨k, rfl⟩ := Nat.exists_eq_add_of_le hm
  rw [cnt_add]
  have h1 : cnt b base m = 0 := by
    unfold cnt
    refine Finset.sum_eq_zero fun i hi => ?_
    have := Finset.mem_range.1 hi
    rw [if_neg fun hb => ?_]
    exact (h i (by omega)).1 hb this
  have h2 : cnt b (base + m) k = k := by
    unfold cnt
    rw [Finset.sum_congr rfl (g := fun _ => 1) fun i hi => by
      have := Finset.mem_range.1 hi
      rw [if_pos]
      rw [Nat.add_assoc]
      exact (h (m + i) (by omega)).2 (by omega)]
    simp
  omega

/-- The true ones of `n` positions are an interval, or all but an interval. -/
def Bitonic (b : ℕ → Prop) (base n : ℕ) : Prop :=
  (∃ l r, ∀ i < n, (b (base + i) ↔ l ≤ i ∧ i < r)) ∨ (∃ l r, ∀ i < n, (b (base + i) ↔ ¬(l ≤ i ∧ i < r)))

/-- The true ones of `n` positions are the first ones (`d`) or the last ones (not `d`). -/
def Sorted (d : Prop) (b : ℕ → Prop) (base n : ℕ) : Prop :=
  ∃ m ≤ n, ∀ i < n, (b (base + i) ↔ (i < m ↔ d))

/-- All `n` positions say `c`. -/
def Const (c : Prop) (b : ℕ → Prop) (base n : ℕ) : Prop := ∀ i < n, (b (base + i) ↔ c)

theorem Bitonic.congr {b b' : ℕ → Prop} {base n : ℕ} (h : ∀ i < n, (b (base + i) ↔ b' (base + i)))
    (hb : Bitonic b base n) : Bitonic b' base n := by
  rcases hb with ⟨l, r, hb⟩ | ⟨l, r, hb⟩
  · exact .inl ⟨l, r, fun i hi => (h i hi).symm.trans (hb i hi)⟩
  · exact .inr ⟨l, r, fun i hi => (h i hi).symm.trans (hb i hi)⟩

/-- Two halves of a bitonic row: their disjunction and their conjunction are bitonic, and either the disjunction is all
    true or the conjunction is all false. -/
theorem halves (b : ℕ → Prop) (base n : ℕ) (h : Bitonic b base (n + n)) (u v : ℕ → Prop) (bu bv : ℕ)
    (hu : ∀ i < n, (u (bu + i) ↔ b (base + i) ∨ b (base + n + i)))
    (hv : ∀ i < n, (v (bv + i) ↔ b (base + i) ∧ b (base + n + i))) :
    Bitonic u bu n ∧ Bitonic v bv n ∧ (Const True u bu n ∨ Const False v bv n) := by
  have key : ∀ l r : ℕ, ((∃ l' r', ∀ i < n, ((l ≤ i ∧ i < r) ∨ (l ≤ n + i ∧ n + i < r) ↔ l' ≤ i ∧ i < r')) ∨
        (∃ l' r', ∀ i < n, ((l ≤ i ∧ i < r) ∨ (l ≤ n + i ∧ n + i < r) ↔ ¬(l' ≤ i ∧ i < r')))) ∧
      (∃ l' r', ∀ i < n, ((l ≤ i ∧ i < r) ∧ (l ≤ n + i ∧ n + i < r) ↔ l' ≤ i ∧ i < r')) ∧
      ((∀ i < n, (l ≤ i ∧ i < r) ∨ (l ≤ n + i ∧ n + i < r)) ∨
        (∀ i < n, ¬((l ≤ i ∧ i < r) ∧ (l ≤ n + i ∧ n + i < r)))) := by
    intro l r
    refine ⟨?_, ⟨l, r - n, fun i hi => by omega⟩, ?_⟩
    · by_cases h1 : r ≤ n
      · exact .inl ⟨l, r, fun i hi => by omega⟩
      by_cases h2 : n ≤ l
      · exact .inl ⟨l - n, r - n, fun i hi => by omega⟩
      by_cases h3 : r - n ≤ l
      · exact .inr ⟨r - n, l, fun i hi => by omega⟩
      · exact .inl ⟨0, n, fun i hi => by omega⟩
    · by_cases h3 : l ≤ n ∧ l + n ≤ r
      · exact .inl fun i hi => by omega
      · exact .inr fun i hi => by omega
  rcases h with ⟨l, r, hb⟩ | ⟨l, r, hb⟩
  · have hu' : ∀ i < n, (u (bu + i) ↔ (l ≤ i ∧ i < r) ∨ (l ≤ n + i ∧ n + i < r)) := fun i hi => by
      rw [hu i hi, hb i (by omega), Nat.add_assoc, hb (n + i) (by omega)]
    have hv' : ∀ i < n, (v (bv + i) ↔ (l ≤ i ∧ i < r) ∧ (l ≤ n + i ∧ n + i < r)) := fun i hi => by
      rw [hv i hi, hb i (by omega), Nat.add_assoc, hb (n + i) (by omega)]
    obtain ⟨k1, ⟨l', r', k2⟩, k3⟩ := key l r
    refine ⟨?_, .inl ⟨l', r', fun i hi => (hv' i hi).trans (k2 i hi)⟩, ?_⟩
    · rcases k1 with ⟨l', r', k⟩ | ⟨l', r', k⟩
      · exact .inl ⟨l', r', fun i hi => (hu' i hi).trans (k i hi)⟩
      · exact .inr ⟨l', r', fun i hi => (hu' i hi).trans (k i hi)⟩
    · rcases k3 with k | k
      · exact .inl fun i hi => by simp only [hu' i hi, k i hi]
      · exact .inr fun i hi => by simp only [hv' i hi, k i hi]
  · have hu' : ∀ i < n, (u (bu + i) ↔ ¬((l ≤ i ∧ i < r) ∧ (l ≤ n + i ∧ n + i < r))) := fun i hi => by
      rw [hu i hi, hb i (by omega), Nat.add_assoc, hb (n + i) (by omega)]
      tauto
    have hv' : ∀ i < n, (v (bv + i) ↔ ¬((l ≤ i ∧ i < r) ∨ (l ≤ n + i ∧ n + i < r))) := fun i hi => by
      rw [hv i hi, hb i (by omega), Nat.add_assoc, hb (n + i) (by omega)]
      tauto
    obtain ⟨k1, ⟨l', r', k2⟩, k3⟩ := key l r
    refine ⟨.inr ⟨l', r', fun i hi => (hu' i hi).trans (not_congr (k2 i hi))⟩, ?_, ?_⟩
    · rcases k1 with ⟨l', r', k⟩ | ⟨l', r', k⟩
      · exact .inr ⟨l', r', fun i hi => (hv' i hi).trans (not_congr (k i hi))⟩
      · exact .inl ⟨l', r', fun i hi => (hv' i hi).trans ((not_congr (k i hi)).trans not_not)⟩
    · rcases k3 with k | k
      · exact .inr fun i hi => by simp only [hv' i hi, k i hi, not_true_eq_false]
      · exact .inl fun i hi => by simp only [hu' i hi, k i hi, not_false_eq_true]

theorem lower_iff {s base i : ℕ} (hb : 2 ^ (s + 1) ∣ base) (hi : i < 2 ^ (s + 1)) : Lower s (base + i) ↔ i < 2 ^ s := by
  unfold Lower
  rw [Nat.add_mod, Nat.mod_eq_zero_of_dvd hb, Nat.zero_add, Nat.mod_mod, Nat.mod_eq_of_lt hi]

/-- An exchange at half the block's size, on the lower half of an aligned block. -/
theorem exch_lo {s base : ℕ} (hb : 2 ^ (s + 1) ∣ base) (D b : ℕ → Prop) (i : ℕ) (hi : i < 2 ^ s) :
    exch s D b (base + i) ↔ (D (base + i) ∧ (b (base + i) ∨ b (base + 2 ^ s + i))) ∨
      (¬D (base + i) ∧ (b (base + i) ∧ b (base + 2 ^ s + i))) := by
  have h2 : 2 ^ (s + 1) = 2 ^ s + 2 ^ s := by rw [pow_succ]; omega
  have hl : Lower s (base + i) := (lower_iff hb (by omega)).2 hi
  unfold exch other
  rw [if_pos hl, Nat.add_right_comm]
  tauto

/-- The same on the upper half. -/
theorem exch_hi {s base : ℕ} (hb : 2 ^ (s + 1) ∣ base) (D b : ℕ → Prop) (i : ℕ) (hi : i < 2 ^ s) :
    exch s D b (base + 2 ^ s + i) ↔ (D (base + 2 ^ s + i) ∧ (b (base + i) ∧ b (base + 2 ^ s + i))) ∨
      (¬D (base + 2 ^ s + i) ∧ (b (base + i) ∨ b (base + 2 ^ s + i))) := by
  have h2 : 2 ^ (s + 1) = 2 ^ s + 2 ^ s := by rw [pow_succ]; omega
  have hl : ¬Lower s (base + 2 ^ s + i) := by
    rw [Nat.add_assoc, lower_iff hb (by omega)]
    omega
  unfold exch other
  rw [if_neg hl, show base + 2 ^ s + i - 2 ^ s = base + i by omega]
  tauto

/-- Exchanges at distances `2 ^ (k - 1)`, …, `2`, `1`. -/
def mergeP : ℕ → (ℕ → Prop) → (ℕ → Prop) → (ℕ → Prop)
  | 0, _, b => b
  | k + 1, D, b => mergeP k D (exch k D b)

theorem mergeP_const (c : Prop) (D : ℕ → Prop) : ∀ (k : ℕ) (b : ℕ → Prop) (base : ℕ), 2 ^ k ∣ base →
    Const c b base (2 ^ k) → Const c (mergeP k D b) base (2 ^ k) := by
  intro k
  induction k with
  | zero => exact fun b base _ h => h
  | succ k ih =>
    intro b base hb h
    have h2 : 2 ^ (k + 1) = 2 ^ k + 2 ^ k := by rw [pow_succ]; omega
    have hd : 2 ^ k ∣ base := (pow_dvd_pow 2 (Nat.le_succ k)).trans hb
    have e1 : Const c (exch k D b) base (2 ^ k) := fun i hi => by
      have a1 := h i (by omega)
      have a2 := h (2 ^ k + i) (by omega)
      rw [← Nat.add_assoc] at a2
      rw [exch_lo hb D b i hi]
      tauto
    have e2 : Const c (exch k D b) (base + 2 ^ k) (2 ^ k) := fun i hi => by
      have a1 := h i (by omega)
      have a2 := h (2 ^ k + i) (by omega)
      rw [← Nat.add_assoc] at a2
      rw [exch_hi hb D b i hi]
      tauto
    have r1 := ih _ base hd e1
    have r2 := ih _ (base + 2 ^ k) ((Nat.dvd_add_right hd).2 (dvd_refl _)) e2
    intro i hi
    show mergeP k D (exch k D b) (base + i) ↔ c
    by_cases hk : i < 2 ^ k
    · exact r1 i hk
    · have := r2 (i - 2 ^ k) (by omega)
      rwa [show base + 2 ^ k + (i - 2 ^ k) = base + i by omega] at this

/-- A bitonic block is sorted by exchanges at every distance below its size, all in one direction. -/
theorem mergeP_sorted (d : Prop) (D : ℕ → Prop) : ∀ (k : ℕ) (b : ℕ → Prop) (base : ℕ), 2 ^ k ∣ base →
    (∀ i < 2 ^ k, (D (base + i) ↔ d)) → Bitonic b base (2 ^ k) → Sorted d (mergeP k D b) base (2 ^ k) := by
  intro k
  induction k with
  | zero =>
    intro b base _ _ _
    show Sorted d b base 1
    by_cases h : b base ↔ d
    · refine ⟨1, le_rfl, fun i hi => ?_⟩
      obtain rfl : i = 0 := by omega
      simpa using h
    · refine ⟨0, by omega, fun i hi => ?_⟩
      obtain rfl : i = 0 := by omega
      simp only [Nat.add_zero, lt_irrefl, false_iff]
      tauto
  | succ k ih =>
    intro b base hb hD h
    have h2 : 2 ^ (k + 1) = 2 ^ k + 2 ^ k := by rw [pow_succ]; omega
    have hd : 2 ^ k ∣ base := (pow_dvd_pow 2 (Nat.le_succ k)).trans hb
    have hd' : 2 ^ k ∣ base + 2 ^ k := (Nat.dvd_add_right hd).2 (dvd_refl _)
    have D1 : ∀ i < 2 ^ k, (D (base + i) ↔ d) := fun i hi => hD i (by omega)
    have D2 : ∀ i < 2 ^ k, (D (base + 2 ^ k + i) ↔ d) := fun i hi => by
      have := hD (2 ^ k + i) (by omega)
      rwa [← Nat.add_assoc] at this
    rw [h2] at h
    have glue : ∀ m1 m2 m : ℕ, m ≤ 2 ^ (k + 1) →
        (∀ i < 2 ^ k, (mergeP k D (exch k D b) (base + i) ↔ (i < m1 ↔ d))) →
        (∀ i < 2 ^ k, (mergeP k D (exch k D b) (base + 2 ^ k + i) ↔ (i < m2 ↔ d))) →
        (∀ i < 2 ^ k, (i < m1 ↔ i < m)) → (∀ i < 2 ^ k, (i < m2 ↔ 2 ^ k + i < m)) →
        Sorted d (mergeP (k + 1) D b) base (2 ^ (k + 1)) := by
      intro m1 m2 m hm s1 s2 g1 g2
      refine ⟨m, hm, fun i hi => ?_⟩
      show mergeP k D (exch k D b) (base + i) ↔ _
      by_cases hk : i < 2 ^ k
      · rw [s1 i hk, g1 i hk]
      · have := s2 (i - 2 ^ k) (by omega)
        rw [show base + 2 ^ k + (i - 2 ^ k) = base + i by omega] at this
        rw [this, g2 (i - 2 ^ k) (by omega), show 2 ^ k + (i - 2 ^ k) = i by omega]
    by_cases hdd : d
    · have hlo : ∀ i < 2 ^ k, (exch k D b (base + i) ↔ b (base + i) ∨ b (base + 2 ^ k + i)) := fun i hi => by
        rw [exch_lo hb D b i hi, D1 i hi]; tauto
      have hhi : ∀ i < 2 ^ k, (exch k D b (base + 2 ^ k + i) ↔ b (base + i) ∧ b (base + 2 ^ k + i)) := fun i hi => by
        rw [exch_hi hb D b i hi, D2 i hi]; tauto
      obtain ⟨bu, bv, hc⟩ := halves b base (2 ^ k) h _ _ base (base + 2 ^ k) hlo hhi
      obtain ⟨m1, hm1, s1⟩ := ih _ base hd D1 bu
      obtain ⟨m2, hm2, s2⟩ := ih _ (base + 2 ^ k) hd' D2 bv
      rcases hc with hc | hc
      · have c1 := mergeP_const True D k _ base hd hc
        refine glue (2 ^ k) m2 (2 ^ k + m2) (by omega) (fun i hi => ?_) s2 (fun i hi => by omega) (fun i hi => by omega)
        rw [c1 i hi]; tauto
      · have c2 := mergeP_const False D k _ (base + 2 ^ k) hd' hc
        refine glue m1 0 m1 (by omega) s1 (fun i hi => ?_) (fun i hi => by omega) (fun i hi => by omega)
        rw [c2 i hi]
        have : ¬ i < 0 := by omega
        tauto
    · have hlo : ∀ i < 2 ^ k, (exch k D b (base + i) ↔ b (base + i) ∧ b (base + 2 ^ k + i)) := fun i hi => by
        rw [exch_lo hb D b i hi, D1 i hi]; tauto
      have hhi : ∀ i < 2 ^ k, (exch k D b (base + 2 ^ k + i) ↔ b (base + i) ∨ b (base + 2 ^ k + i)) := fun i hi => by
        rw [exch_hi hb D b i hi, D2 i hi]; tauto
      obtain ⟨bu, bv, hc⟩ := halves b base (2 ^ k) h _ _ (base + 2 ^ k) base hhi hlo
      obtain ⟨m1, hm1, s1⟩ := ih _ base hd D1 bv
      obtain ⟨m2, hm2, s2⟩ := ih _ (base + 2 ^ k) hd' D2 bu
      rcases hc with hc | hc
      · have c2 := mergeP_const True D k _ (base + 2 ^ k) hd' hc
        refine glue m1 0 m1 (by omega) s1 (fun i hi => ?_) (fun i hi => by omega) (fun i hi => by omega)
        rw [c2 i hi]
        have : ¬ i < 0 := by omega
        tauto
      · have c1 := mergeP_const False D k _ base hd hc
        refine glue (2 ^ k) m2 (2 ^ k + m2) (by omega) (fun i hi => ?_) s2 (fun i hi => by omega) (fun i hi => by omega)
        rw [c1 i hi]; tauto

/-- An exchange keeps how many of an aligned block are true, when both of a pair are told the same direction. -/
theorem exch_cnt {s base : ℕ} (hb : 2 ^ (s + 1) ∣ base) (D b : ℕ → Prop) (d : Prop)
    (hD : ∀ i < 2 ^ (s + 1), (D (base + i) ↔ d)) :
    cnt (exch s D b) base (2 ^ s) + cnt (exch s D b) (base + 2 ^ s) (2 ^ s) = cnt b base (2 ^ s) + cnt b (base + 2 ^ s) (2 ^ s) := by
  classical
  have h2 : 2 ^ (s + 1) = 2 ^ s + 2 ^ s := by rw [pow_succ]; omega
  unfold cnt
  rw [← Finset.sum_add_distrib, ← Finset.sum_add_distrib]
  refine Finset.sum_congr rfl fun i hi => ?_
  have hi := Finset.mem_range.1 hi
  have d1 := hD i (by omega)
  have d2 := hD (2 ^ s + i) (by omega)
  rw [← Nat.add_assoc] at d2
  have e1 := exch_lo hb D b i hi
  have e2 := exch_hi hb D b i hi
  rw [d1] at e1
  rw [d2] at e2
  by_cases p : b (base + i) <;> by_cases q : b (base + 2 ^ s + i) <;> by_cases hd : d <;>
    simp only [p, q, hd, e1, e2, and_true, and_false, or_true, or_false, true_and, false_and, not_true_eq_false,
      not_false_eq_true, if_true, if_false]

theorem mergeP_cnt (d : Prop) (D : ℕ → Prop) : ∀ (k : ℕ) (b : ℕ → Prop) (base : ℕ), 2 ^ k ∣ base →
    (∀ i < 2 ^ k, (D (base + i) ↔ d)) → cnt (mergeP k D b) base (2 ^ k) = cnt b base (2 ^ k) := by
  intro k
  induction k with
  | zero => exact fun b base _ _ => rfl
  | succ k ih =>
    intro b base hb hD
    have h2 : 2 ^ (k + 1) = 2 ^ k + 2 ^ k := by rw [pow_succ]; omega
    have hd : 2 ^ k ∣ base := (pow_dvd_pow 2 (Nat.le_succ k)).trans hb
    have hd' : 2 ^ k ∣ base + 2 ^ k := (Nat.dvd_add_right hd).2 (dvd_refl _)
    show cnt (mergeP k D (exch k D b)) base (2 ^ (k + 1)) = _
    have hc := exch_cnt hb D b d hD
    rw [h2, cnt_add, cnt_add, ih _ base hd fun i hi => hD i (by omega), ih _ (base + 2 ^ k) hd' fun i hi => by
      have := hD (2 ^ k + i) (by omega)
      rwa [← Nat.add_assoc] at this]
    exact hc

/-- The direction told to block number `q` of size `2 ^ k` so that neighbours differ: the even ones `c`, the odd ones not. -/
def alt (c : Prop) (k p : ℕ) : Prop := Lower k p ↔ c

/-- The phases of a bitonic sort whose blocks reach size `2 ^ k`, neighbours sorted opposite ways. -/
def phases (c : ℕ → Prop) : ℕ → (ℕ → Prop) → (ℕ → Prop)
  | 0, b => b
  | k + 1, b => mergeP (k + 1) (fun p => alt (c p) (k + 1) p) (phases c k b)

/-- Two neighbours sorted opposite ways are one bitonic block. -/
theorem bitonic_of_sorted (c : Prop) (b : ℕ → Prop) (base n : ℕ) (h1 : Sorted c b base n) (h2 : Sorted (¬c) b (base + n) n) :
    Bitonic b base (n + n) := by
  obtain ⟨m1, hm1, s1⟩ := h1
  obtain ⟨m2, hm2, s2⟩ := h2
  have at2 : ∀ i < n + n, ¬ i < n → (b (base + i) ↔ (i - n < m2 ↔ ¬c)) := fun i hi hn => by
    have := s2 (i - n) (by omega)
    rwa [show base + n + (i - n) = base + i by omega] at this
  by_cases hc : c
  · refine .inr ⟨m1, n + m2, fun i hi => ?_⟩
    by_cases hn : i < n
    · have := s1 i hn
      simp only [hc, iff_true] at this
      rw [this]; omega
    · have := at2 i hi hn
      simp only [hc, not_true_eq_false, iff_false] at this
      rw [this]; omega
  · refine .inl ⟨m1, n + m2, fun i hi => ?_⟩
    by_cases hn : i < n
    · have := s1 i hn
      simp only [hc, iff_false] at this
      rw [this]; omega
    · have := at2 i hi hn
      simp only [hc, not_false_eq_true, iff_true] at this
      rw [this]; omega

/-- After the phases up to size `2 ^ k`, every aligned block of that size is sorted, and holds what it held; `c` is the
    same over blocks of size `2 ^ K`. -/
theorem phases_sorted (c : ℕ → Prop) (K : ℕ) (hc : ∀ base, 2 ^ K ∣ base → ∀ i < 2 ^ K, (c (base + i) ↔ c base)) (b : ℕ → Prop) :
    ∀ k < K, ∀ base, 2 ^ k ∣ base →
      Sorted (alt (c base) k base) (phases c k b) base (2 ^ k) ∧ cnt (phases c k b) base (2 ^ k) = cnt b base (2 ^ k) := by
  have hblock : ∀ k ≤ K, ∀ base, 2 ^ k ∣ base → ∀ i < 2 ^ k, (c (base + i) ↔ c base) := by
    intro k hk base hb i hi
    obtain ⟨q, rfl⟩ := hb
    have hdiv : 2 ^ K * (2 ^ k * q / 2 ^ K) + 2 ^ k * q % 2 ^ K = 2 ^ k * q := Nat.div_add_mod _ _
    have hle : 2 ^ k * q % 2 ^ K + 2 ^ k ≤ 2 ^ K := by
      obtain ⟨j, rfl⟩ := Nat.exists_eq_add_of_le hk
      rw [pow_add, Nat.mul_mod_mul_left]
      have : q % 2 ^ j < 2 ^ j := Nat.mod_lt _ (by positivity)
      calc 2 ^ k * (q % 2 ^ j) + 2 ^ k = 2 ^ k * (q % 2 ^ j + 1) := by ring
        _ ≤ 2 ^ k * 2 ^ j := Nat.mul_le_mul_left _ this
    have e1 := hc (2 ^ K * (2 ^ k * q / 2 ^ K)) (dvd_mul_right _ _) (2 ^ k * q % 2 ^ K + i) (by omega)
    have e2 := hc (2 ^ K * (2 ^ k * q / 2 ^ K)) (dvd_mul_right _ _) (2 ^ k * q % 2 ^ K) (by
      have : 0 < 2 ^ k := by positivity
      omega)
    rw [← Nat.add_assoc, hdiv] at e1
    rw [hdiv] at e2
    exact e1.trans e2.symm
  intro k
  induction k with
  | zero =>
    intro _ base _
    refine ⟨?_, rfl⟩
    show Sorted _ b base 1
    by_cases h : b base ↔ alt (c base) 0 base
    · refine ⟨1, le_rfl, fun i hi => ?_⟩
      obtain rfl : i = 0 := by omega
      simpa using h
    · refine ⟨0, by omega, fun i hi => ?_⟩
      obtain rfl : i = 0 := by omega
      simp only [Nat.add_zero, lt_irrefl, false_iff]
      tauto
  | succ k ih =>
    intro hk base hb
    have h2 : 2 ^ (k + 1) = 2 ^ k + 2 ^ k := by rw [pow_succ]; omega
    have hd : 2 ^ k ∣ base := (pow_dvd_pow 2 (Nat.le_succ k)).trans hb
    have hd' : 2 ^ k ∣ base + 2 ^ k := (Nat.dvd_add_right hd).2 (dvd_refl _)
    obtain ⟨s1, c1⟩ := ih (by omega) base hd
    obtain ⟨s2, c2⟩ := ih (by omega) (base + 2 ^ k) hd'
    have pos : 0 < 2 ^ k := by positivity
    have l1 : Lower k base := by
      have := lower_iff (s := k) (base := base) (i := 0) hb (by omega)
      simpa using this.2 pos
    have l2 : ¬Lower k (base + 2 ^ k) := by
      rw [lower_iff hb (by omega)]; omega
    have hc2 : c (base + 2 ^ k) ↔ c base := hblock (k + 1) (by omega) base hb (2 ^ k) (by omega)
    have t1 : alt (c base) k base ↔ c base := by unfold alt; tauto
    have t2 : alt (c (base + 2 ^ k)) k (base + 2 ^ k) ↔ ¬c base := by unfold alt; rw [hc2]; tauto
    rw [propext t1] at s1
    rw [propext t2] at s2
    have hbit := bitonic_of_sorted _ _ _ _ s1 s2
    rw [← h2] at hbit
    have hD : ∀ i < 2 ^ (k + 1), (alt (c (base + i)) (k + 1) (base + i) ↔ alt (c base) (k + 1) base) := by
      intro i hi
      have e := hblock (k + 1) (by omega) base hb i hi
      have hl : Lower (k + 1) (base + i) ↔ Lower (k + 1) base := by
        obtain ⟨q, rfl⟩ := hb
        unfold Lower
        have p2 : 2 ^ (k + 1 + 1) = 2 ^ (k + 1) * 2 := pow_succ 2 (k + 1)
        rw [p2, Nat.mod_mul, Nat.mod_mul, Nat.mul_add_mod, Nat.mod_eq_of_lt hi, Nat.mul_add_div (by positivity),
          Nat.div_eq_of_lt hi, Nat.mul_mod_right, Nat.mul_div_cancel_left _ (by positivity)]
        simp only [Nat.add_zero, Nat.zero_add]
        rcases Nat.mod_two_eq_zero_or_one q with h | h <;> rw [h] <;> omega
      unfold alt
      rw [e, hl]
    refine ⟨mergeP_sorted _ _ (k + 1) _ base hb hD hbit, ?_⟩
    show cnt (mergeP (k + 1) _ _) base _ = _
    rw [mergeP_cnt _ _ (k + 1) _ base hb hD, h2, cnt_add, cnt_add, c1, c2]

/-- The whole sort of blocks of size `2 ^ (K + 1)`, each in its own direction. -/
def sortP (c : ℕ → Prop) (K : ℕ) (b : ℕ → Prop) : ℕ → Prop := mergeP (K + 1) c (phases c K b)

theorem sortP_sorted (c : ℕ → Prop) (K : ℕ) (hc : ∀ base, 2 ^ (K + 1) ∣ base → ∀ i < 2 ^ (K + 1), (c (base + i) ↔ c base))
    (b : ℕ → Prop) (base : ℕ) (hb : 2 ^ (K + 1) ∣ base) :
    Sorted (c base) (sortP c K b) base (2 ^ (K + 1)) ∧ cnt (sortP c K b) base (2 ^ (K + 1)) = cnt b base (2 ^ (K + 1)) := by
  have h2 : 2 ^ (K + 1) = 2 ^ K + 2 ^ K := by rw [pow_succ]; omega
  have hd : 2 ^ K ∣ base := (pow_dvd_pow 2 (Nat.le_succ K)).trans hb
  have hd' : 2 ^ K ∣ base + 2 ^ K := (Nat.dvd_add_right hd).2 (dvd_refl _)
  obtain ⟨s1, c1⟩ := phases_sorted c (K + 1) hc b K (by omega) base hd
  obtain ⟨s2, c2⟩ := phases_sorted c (K + 1) hc b K (by omega) (base + 2 ^ K) hd'
  have pos : 0 < 2 ^ K := by positivity
  have l1 : Lower K base := by
    have := lower_iff (s := K) (base := base) (i := 0) hb (by omega)
    simpa using this.2 pos
  have l2 : ¬Lower K (base + 2 ^ K) := by
    rw [lower_iff hb (by omega)]; omega
  have hc2 : c (base + 2 ^ K) ↔ c base := hc base hb (2 ^ K) (by omega)
  have t1 : alt (c base) K base ↔ c base := by unfold alt; tauto
  have t2 : alt (c (base + 2 ^ K)) K (base + 2 ^ K) ↔ ¬c base := by unfold alt; rw [hc2]; tauto
  rw [propext t1] at s1
  rw [propext t2] at s2
  have hbit := bitonic_of_sorted _ _ _ _ s1 s2
  rw [← h2] at hbit
  refine ⟨mergeP_sorted _ _ (K + 1) _ base hb (hc base hb) hbit, ?_⟩
  show cnt (mergeP (K + 1) _ _) base _ = _
  rw [mergeP_cnt _ _ (K + 1) _ base hb (hc base hb), h2, cnt_add, cnt_add, c1, c2]

/-- A sorted block by how many of it are true. -/
theorem Sorted.iff_cnt {b : ℕ → Prop} {base n : ℕ} (h : Sorted True b base n) (i : ℕ) (hi : i < n) :
    b (base + i) ↔ i < cnt b base n := by
  obtain ⟨m, hm, s⟩ := h
  have s' : ∀ i < n, (b (base + i) ↔ i < m) := fun i hi => by simpa using s i hi
  rw [cnt_lt b base n m hm s', s' i hi]

theorem Sorted.iff_cnt_asc {b : ℕ → Prop} {base n : ℕ} (h : Sorted False b base n) (i : ℕ) (hi : i < n) :
    b (base + i) ↔ ¬ i < n - cnt b base n := by
  obtain ⟨m, hm, s⟩ := h
  have s' : ∀ i < n, (b (base + i) ↔ ¬ i < m) := fun i hi => by simpa using s i hi
  rw [cnt_ge b base n m hm s', s' i hi]
  omega

/-- Position by position the greater of a falling and a rising block: bitonic, and true where a falling block of both
    blocks' true ones together would be. -/
theorem fold_bitonic {a b u : ℕ → Prop} {ba bb bu n : ℕ} (ha : Sorted True a ba n) (hb : Sorted False b bb n)
    (hu : ∀ i < n, (u (bu + i) ↔ a (ba + i) ∨ b (bb + i))) :
    Bitonic u bu n ∧ cnt u bu n = min n (cnt a ba n + cnt b bb n) := by
  have hu' : ∀ i < n, (u (bu + i) ↔ ¬(cnt a ba n ≤ i ∧ i < n - cnt b bb n)) := fun i hi => by
    rw [hu i hi, ha.iff_cnt i hi, hb.iff_cnt_asc i hi]; omega
  refine ⟨.inr ⟨_, _, hu'⟩, ?_⟩
  have la := cnt_le a ba n
  have lb := cnt_le b bb n
  generalize cnt a ba n = x at *
  generalize cnt b bb n = y at *
  by_cases h : n - y ≤ x
  · rw [cnt_lt u bu n n le_rfl fun i hi => by rw [hu' i hi]; omega]
    omega
  · obtain ⟨z, hz⟩ : ∃ z, n = x + z := ⟨n - x, by omega⟩
    subst hz
    rw [cnt_add, cnt_lt u bu x x le_rfl fun i hi => by rw [hu' i (by omega)]; omega,
      cnt_ge u (bu + x) z (z - y) (by omega) fun i hi => by
        rw [Nat.add_assoc, hu' (x + i) (by omega)]; omega]
    omega

end Indexer

end
-- ==== Proof.Rows.lean ====
/-
  The sorting network on rows of pairs (key, label), keys in a linear order. An exchange takes the partner's pair when
  "the partner's key is the greater" agrees with "the position is to hold the greater". Seen through any upward closed
  threshold this is the exchange of truth values of `Bitonic`, equal keys included; and every pair of the result is a
  pair of the row it started from.
-/
module

public import proofs.«01_k».proof.Proof.Bitonic
public import Mathlib.Order.Lattice

@[expose] public section

namespace Indexer

open Finset

variable {E I : Type} [LinearOrder E]

open scoped Classical in
/-- One exchange of pairs. `W p` says that position `p` holds the greater of its two. -/
noncomputable def swap (s : ℕ) (W : ℕ → Prop) (e : ℕ → E × I) (p : ℕ) : E × I :=
  if ((e p).1 < (e (other s p)).1 ↔ W p) then e (other s p) else e p

/-- Exchanges at the distances `2 ^ (k - 1)`, …, `1`. -/
noncomputable def swaps (W : ℕ → ℕ → Prop) : ℕ → (ℕ → E × I) → (ℕ → E × I)
  | 0, e => e
  | k + 1, e => swaps W k (swap k (W k) e)

/-- Where the greater goes: to the lower position exactly where `D` holds. -/
def toward (D : ℕ → Prop) (s p : ℕ) : Prop := Lower s p ↔ D p

/-- The phases of the sort. -/
noncomputable def rounds (c : ℕ → Prop) : ℕ → (ℕ → E × I) → (ℕ → E × I)
  | 0, e => e
  | k + 1, e => swaps (toward fun p => alt (c p) (k + 1) p) (k + 1) (rounds c k e)

/-- The sort of every aligned block of `2 ^ (K + 1)`, downwards where `c` holds. -/
noncomputable def sortRow (c : ℕ → Prop) (K : ℕ) (e : ℕ → E × I) : ℕ → E × I := swaps (toward c) (K + 1) (rounds c K e)

open scoped Classical in
/-- The greater of two rows, position by position. -/
noncomputable def fold (a b : ℕ → E × I) (p : ℕ) : E × I := if (b p).1 < (a p).1 then a p else b p

/-- Two sorted rows of `2 ^ K` merged: their greater halves, sorted. -/
noncomputable def mergeRow (c : Prop) (K : ℕ) (a b : ℕ → E × I) : ℕ → E × I := swaps (toward fun _ => c) K (fold a b)

/-- A row seen through a threshold. -/
def above (P : E → Prop) (e : ℕ → E × I) (p : ℕ) : Prop := P (e p).1

/-- Upward closed. -/
def Up (P : E → Prop) : Prop := ∀ x y, x ≤ y → P x → P y

theorem above_swap {P : E → Prop} (hP : Up P) (s : ℕ) (D : ℕ → Prop) (e : ℕ → E × I) :
    above P (swap s (toward D s) e) = exch s D (above P e) := by
  funext p
  apply propext
  unfold above swap exch toward
  rcases lt_or_ge (e p).1 (e (other s p)).1 with h | h
  · have hp := hP _ _ h.le
    by_cases hw : (Lower s p ↔ D p) <;> simp only [h, hw, true_iff, iff_true, iff_false, not_true, not_false_iff, if_true, if_false,
      true_and, false_and, or_false, false_or] <;> tauto
  · have hp := hP _ _ h
    by_cases hw : (Lower s p ↔ D p) <;> simp only [not_lt.2 h, hw, false_iff, not_true, not_false_iff, if_true, if_false,
      true_and, false_and, or_false, false_or] <;> tauto

theorem above_swaps {P : E → Prop} (hP : Up P) (D : ℕ → Prop) (k : ℕ) : ∀ e : ℕ → E × I,
    above P (swaps (toward D) k e) = mergeP k D (above P e) := by
  induction k with
  | zero => exact fun _ => rfl
  | succ k ih => exact fun e => by rw [swaps, ih, above_swap hP, mergeP]

theorem above_rounds {P : E → Prop} (hP : Up P) (c : ℕ → Prop) (e : ℕ → E × I) (k : ℕ) :
    above P (rounds c k e) = phases c k (above P e) := by
  induction k with
  | zero => rfl
  | succ k ih => rw [rounds, above_swaps hP, ih, phases]

theorem above_sortRow {P : E → Prop} (hP : Up P) (c : ℕ → Prop) (K : ℕ) (e : ℕ → E × I) :
    above P (sortRow c K e) = sortP c K (above P e) := by
  unfold sortRow sortP
  rw [above_swaps hP, above_rounds hP]

theorem above_fold {P : E → Prop} (hP : Up P) (a b : ℕ → E × I) (p : ℕ) :
    above P (fold a b) p ↔ above P a p ∨ above P b p := by
  unfold above fold
  rcases lt_or_ge (b p).1 (a p).1 with h | h
  · have := hP _ _ h.le
    simp only [h, if_true]; tauto
  · have := hP _ _ h
    simp only [not_lt.2 h, if_false]; tauto

/-- One merge: two blocks of `2 ^ K`, the first sorted downwards and the second upwards, give a sorted block, and the
true positions are those of both as far as there is room. -/
theorem above_mergeRow {P : E → Prop} (hP : Up P) (c : Prop) (K : ℕ) (a b : ℕ → E × I)
    (ha : Sorted True (above P a) 0 (2 ^ K)) (hb : Sorted False (above P b) 0 (2 ^ K)) :
    Sorted c (above P (mergeRow c K a b)) 0 (2 ^ K) ∧
      cnt (above P (mergeRow c K a b)) 0 (2 ^ K) = min (2 ^ K) (cnt (above P a) 0 (2 ^ K) + cnt (above P b) 0 (2 ^ K)) := by
  have hf := fold_bitonic (u := above P (fold a b)) (bu := 0) ha hb
    (fun i _ => by simpa only [Nat.zero_add] using above_fold hP a b i)
  unfold mergeRow
  rw [above_swaps hP]
  exact ⟨mergeP_sorted c _ K _ 0 (dvd_zero _) (fun _ _ => Iff.rfl) hf.1,
    (mergeP_cnt c _ K _ 0 (dvd_zero _) (fun _ _ => Iff.rfl)).trans hf.2⟩

/-! ## What holds of every pair of the row holds of every pair of the result -/

theorem other_lt {s n p : ℕ} (hn : 2 ^ (s + 1) ∣ n) (hp : p < n) : other s p < n := by
  unfold other
  split
  · rename_i h
    unfold Lower at h
    obtain ⟨q, rfl⟩ := hn
    have h2 : 2 ^ (s + 1) = 2 ^ s + 2 ^ s := by rw [pow_succ]; omega
    have hd := Nat.div_add_mod p (2 ^ (s + 1))
    have hq : p / 2 ^ (s + 1) < q := Nat.div_lt_of_lt_mul hp
    have hm := Nat.mul_le_mul_left (2 ^ (s + 1)) (Nat.succ_le_of_lt hq)
    rw [Nat.mul_succ] at hm
    omega
  · omega

theorem swaps_all (Q : E × I → Prop) {n : ℕ} (W : ℕ → ℕ → Prop) (k : ℕ) (hn : 2 ^ k ∣ n) : ∀ e : ℕ → E × I,
    (∀ p < n, Q (e p)) → ∀ p < n, Q (swaps W k e p) := by
  induction k with
  | zero => exact fun _ h => h
  | succ k ih =>
    intro e h
    refine ih (dvd_trans (pow_dvd_pow 2 (Nat.le_succ k)) hn) _ fun p hp => ?_
    unfold swap
    split
    · exact h _ (other_lt hn hp)
    · exact h _ hp

theorem rounds_all (Q : E × I → Prop) {n : ℕ} (c : ℕ → Prop) (e : ℕ → E × I) (h : ∀ p < n, Q (e p)) (k : ℕ) :
    2 ^ k ∣ n → ∀ p < n, Q (rounds c k e p) := by
  induction k with
  | zero => exact fun _ => h
  | succ k ih =>
    exact fun hn => swaps_all Q _ (k + 1) hn _ (ih (dvd_trans (pow_dvd_pow 2 (Nat.le_succ k)) hn))

theorem sortRow_all (Q : E × I → Prop) {n : ℕ} (c : ℕ → Prop) (K : ℕ) (hn : 2 ^ (K + 1) ∣ n) (e : ℕ → E × I)
    (h : ∀ p < n, Q (e p)) : ∀ p < n, Q (sortRow c K e p) :=
  swaps_all Q _ (K + 1) hn _ (rounds_all Q c e h K (dvd_trans (pow_dvd_pow 2 (Nat.le_succ K)) hn))

theorem mergeRow_all (Q : E × I → Prop) (c : Prop) (K : ℕ) (a b : ℕ → E × I) (ha : ∀ p < 2 ^ K, Q (a p))
    (hb : ∀ p < 2 ^ K, Q (b p)) : ∀ p < 2 ^ K, Q (mergeRow c K a b p) := by
  refine swaps_all Q _ K dvd_rfl _ fun p hp => ?_
  unfold fold
  split
  · exact ha p hp
  · exact hb p hp

/-! ## The network of one row: blocks of 512 sorted, then merged -/

/-- Block `c` of a row. -/
def piece (e : ℕ → E × I) (c p : ℕ) : E × I := e (512 * c + p)

/-- Which blocks are sorted downwards where there are up to three: the first. -/
def firstDown (p : ℕ) : Prop := p / 512 = 0

/-- Which blocks are sorted downwards where there are four: the first and the third. -/
def evenDown (p : ℕ) : Prop := p / 512 = 0 ∨ p / 512 = 2

noncomputable def top1 (e : ℕ → E × I) : ℕ → E × I := sortRow firstDown 8 e

noncomputable def top2 (e : ℕ → E × I) : ℕ → E × I :=
  mergeRow True 9 (piece (sortRow firstDown 8 e) 0) (piece (sortRow firstDown 8 e) 1)

noncomputable def top3 (e : ℕ → E × I) : ℕ → E × I := mergeRow True 9 (top2 e) (piece (sortRow firstDown 8 e) 2)

noncomputable def top4 (e : ℕ → E × I) : ℕ → E × I :=
  mergeRow True 9 (mergeRow True 9 (piece (sortRow evenDown 8 e) 0) (piece (sortRow evenDown 8 e) 1))
    (mergeRow False 9 (piece (sortRow evenDown 8 e) 2) (piece (sortRow evenDown 8 e) 3))

/-- What a selection of the first 512 of `n` has to satisfy: every threshold is passed by as many of the first positions
as it is by elements, up to 512, and every pair is one of the `n`. -/
structure Selects (n : ℕ) (e t : ℕ → E × I) : Prop where
  passed : ∀ P : E → Prop, Up P → ∀ p < 512, (P (t p).1 ↔ p < cnt (above P e) 0 n)
  from_row : ∀ Q : E × I → Prop, (∀ p < n, Q (e p)) → ∀ p < 512, Q (t p)

theorem block_const (c : ℕ → Prop) (h : ∀ p, c p ↔ c (512 * (p / 512))) : ∀ base, 2 ^ (8 + 1) ∣ base → ∀ i < 2 ^ (8 + 1),
    (c (base + i) ↔ c base) := by
  rintro _ ⟨q, rfl⟩ i hi
  have h1 := h (2 ^ (8 + 1) * q + i)
  have : (2 ^ (8 + 1) * q + i) / 512 = q := by omega
  rw [this] at h1
  exact h1

theorem firstDown_block : ∀ p, firstDown p ↔ firstDown (512 * (p / 512)) := fun p => by
  unfold firstDown; rw [Nat.mul_div_cancel_left _ (by decide)]

theorem evenDown_block : ∀ p, evenDown p ↔ evenDown (512 * (p / 512)) := fun p => by
  unfold evenDown; rw [Nat.mul_div_cancel_left _ (by decide)]

/-- Block `q` after the sort. -/
theorem piece_sorted {P : E → Prop} (hP : Up P) (c : ℕ → Prop) (h : ∀ p, c p ↔ c (512 * (p / 512))) (e : ℕ → E × I) (q : ℕ) :
    Sorted (c (512 * q)) (above P (piece (sortRow c 8 e) q)) 0 (2 ^ 9) ∧
      cnt (above P (piece (sortRow c 8 e) q)) 0 (2 ^ 9) = cnt (above P e) (512 * q) 512 := by
  obtain ⟨⟨m, hm, hs⟩, hc⟩ := sortP_sorted c 8 (block_const c h) (above P e) (512 * q) ⟨q, rfl⟩
  rw [← above_sortRow hP] at hs hc
  have hpc : ∀ i, above P (piece (sortRow c 8 e) q) (0 + i) ↔ above P (sortRow c 8 e) (512 * q + i) := fun i => by
    rw [Nat.zero_add]; rfl
  exact ⟨⟨m, hm, fun i hi => (hpc i).trans (hs i hi)⟩, (cnt_congr fun i _ => hpc i).trans hc⟩

theorem Sorted.congr_dir {d d' : Prop} {b : ℕ → Prop} {base n : ℕ} (h : Sorted d b base n) (hd : d ↔ d') : Sorted d' b base n := by
  rwa [← propext hd]

/-- A downwards sorted block read at a position. -/
theorem passed_of {P : E → Prop} {t : ℕ → E × I} {n k : ℕ} (h : Sorted True (above P t) 0 (2 ^ 9))
    (hc : cnt (above P t) 0 (2 ^ 9) = min 512 k) (hk : k = n) (p : ℕ) (hp : p < 512) : P (t p).1 ↔ p < n := by
  have h1 := h.iff_cnt p hp
  rw [Nat.zero_add, hc, hk] at h1
  exact h1.trans (by omega)

theorem top1_selects (e : ℕ → E × I) : Selects 512 e (top1 e) where
  passed P hP p hp := by
    have h := piece_sorted hP firstDown firstDown_block e 0
    have ht : piece (sortRow firstDown 8 e) 0 = top1 e := by funext p; unfold piece top1; rw [Nat.mul_zero, Nat.zero_add]
    rw [ht] at h
    refine passed_of (k := cnt (above P e) 0 512) (h.1.congr_dir (by simp [firstDown])) ?_ rfl p hp
    rw [h.2]
    have := cnt_le (above P e) 0 512
    simp only [Nat.mul_zero]; omega
  from_row Q h := sortRow_all Q _ 8 (by decide) e h

/-- The merge of the first two blocks. -/
theorem first_two {P : E → Prop} (hP : Up P) (c : ℕ → Prop) (h : ∀ p, c p ↔ c (512 * (p / 512))) (h0 : c 0) (h1 : ¬c 512) (e : ℕ → E × I) :
    Sorted True (above P (mergeRow True 9 (piece (sortRow c 8 e) 0) (piece (sortRow c 8 e) 1))) 0 (2 ^ 9) ∧
      cnt (above P (mergeRow True 9 (piece (sortRow c 8 e) 0) (piece (sortRow c 8 e) 1))) 0 (2 ^ 9) =
        min 512 (cnt (above P e) 0 1024) := by
  have a := piece_sorted hP c h e 0
  have b := piece_sorted hP c h e 1
  have m := above_mergeRow hP True 9 _ _ (a.1.congr_dir (iff_true_intro (by simpa using h0))) (b.1.congr_dir (iff_false_intro (by simpa using h1)))
  refine ⟨m.1, m.2.trans ?_⟩
  rw [a.2, b.2, show (1024 : ℕ) = 512 + 512 from rfl, cnt_add]
  rfl

theorem piece_all (Q : E × I → Prop) {n : ℕ} (c : ℕ → Prop) (e : ℕ → E × I) (hn : 512 ∣ n) (h : ∀ p < n, Q (e p)) (q : ℕ)
    (hq : 512 * q + 512 ≤ n) : ∀ p < 2 ^ 9, Q (piece (sortRow c 8 e) q p) := fun p hp =>
  sortRow_all Q c 8 hn e h _ (by omega)

theorem top2_selects (e : ℕ → E × I) : Selects 1024 e (top2 e) where
  passed P hP p hp := by
    have m := first_two hP firstDown firstDown_block (by simp [firstDown]) (by simp [firstDown]) e
    exact passed_of m.1 m.2 rfl p hp
  from_row Q h := mergeRow_all Q _ 9 _ _ (piece_all Q _ e (by decide) h 0 (by decide)) (piece_all Q _ e (by decide) h 1 (by decide))

theorem top3_selects (e : ℕ → E × I) : Selects 1536 e (top3 e) where
  passed P hP p hp := by
    have m := first_two hP firstDown firstDown_block (by simp [firstDown]) (by simp [firstDown]) e
    have b := piece_sorted hP firstDown firstDown_block e 2
    have m' := above_mergeRow hP True 9 _ _ m.1 (b.1.congr_dir (by simp [firstDown]))
    refine passed_of (k := cnt (above P e) 0 1024 + cnt (above P e) 1024 512) m'.1 (m'.2.trans ?_) (cnt_add _ _ 1024 512).symm p hp
    rw [b.2, m.2]
    have := cnt_le (above P e) 1024 512
    simp only [show 512 * 2 = 1024 from rfl]; omega
  from_row Q h := mergeRow_all Q _ 9 _ _
    (mergeRow_all Q _ 9 _ _ (piece_all Q _ e (by decide) h 0 (by decide)) (piece_all Q _ e (by decide) h 1 (by decide)))
    (piece_all Q _ e (by decide) h 2 (by decide))

theorem top4_selects (e : ℕ → E × I) : Selects 2048 e (top4 e) where
  passed P hP p hp := by
    have m := first_two hP evenDown evenDown_block (by simp [evenDown]) (by simp [evenDown]) e
    have a := piece_sorted hP evenDown evenDown_block e 2
    have b := piece_sorted hP evenDown evenDown_block e 3
    have m2 := above_mergeRow hP False 9 _ _ (a.1.congr_dir (by simp [evenDown])) (b.1.congr_dir (by simp [evenDown]))
    have m' := above_mergeRow hP True 9 _ _ m.1 m2.1
    refine passed_of (k := cnt (above P e) 0 1024 + (cnt (above P e) 1024 512 + cnt (above P e) 1536 512)) m'.1 (m'.2.trans ?_) ?_ p hp
    · rw [m2.2, a.2, b.2, m.2]
      simp only [show 512 * 2 = 1024 from rfl, show 512 * 3 = 1536 from rfl]; omega
    · rw [show (2048 : ℕ) = 1024 + 1024 from rfl, cnt_add, show (0 + 1024 : ℕ) = 1024 from rfl]
      exact congrArg _ (cnt_add _ 1024 512 512).symm
  from_row Q h := mergeRow_all Q _ 9 _ _
    (mergeRow_all Q _ 9 _ _ (piece_all Q _ e (by decide) h 0 (by decide)) (piece_all Q _ e (by decide) h 1 (by decide)))
    (mergeRow_all Q _ 9 _ _ (piece_all Q _ e (by decide) h 2 (by decide)) (piece_all Q _ e (by decide) h 3 (by decide)))

end Indexer
-- ==== Proof.Net.lean ====
/-
  The sorting network on whole blocks of 256 rows, spelt with the kernel's vector operations, for any number of columns:
  the partner's column by two rotations and a select, one exchange, the phases, the merges.
-/
module

public import Idealize.ShloMosaic.PureOps
public import Idealize.ShloMosaic.Lib.Pointwise
public import proofs.«01_k».proof.Proof.Rows

@[expose] public section

noncomputable section

namespace Indexer

open Idealize.ShloMosaic

variable {F : FTy → Type} [FloatOps F] {α : Type}

/-- A block of 256 rows of `n` columns. -/
abbrev Tile (n : ℕ) : Shape := ⟨2, ![256, n]⟩

theorem tile_slices {n m off : ℕ} (h : off + m ≤ n) : (Tile n).Slices ![0, off] (Tile m) :=
  ⟨rfl, fun a => match a with | ⟨0, _⟩ => le_refl 256 | ⟨1, _⟩ => h⟩

theorem tile_glues {n l m : ℕ} (h : l + m = n) : Shape.Concatenates [Tile l, Tile m] (Tile n) 1 := by
  refine ⟨le_refl 2, ?_, ?_⟩
  · intro s hs
    rcases List.mem_cons.1 hs with rfl | hs
    · exact ⟨rfl, fun b hb => match b with | ⟨0, _⟩ => rfl | ⟨1, _⟩ => absurd rfl hb⟩
    · rcases List.mem_cons.1 hs with rfl | hs
      · exact ⟨rfl, fun b hb => match b with | ⟨0, _⟩ => rfl | ⟨1, _⟩ => absurd rfl hb⟩
      · exact absurd hs List.not_mem_nil
  · exact h

/-- `m` columns from `off` on. -/
def cut {n : ℕ} (m off : ℕ) (h : off + m ≤ n) (x : (Tile n).Idx → α) : (Tile m).Idx → α :=
  extractStridedSlice (Tile m) ![0, off] x (tile_slices h)

/-- Columns side by side. -/
def glue {l m : ℕ} (n : ℕ) (h : l + m = n) (x : (Tile l).Idx → α) (y : (Tile m).Idx → α) : (Tile n).Idx → α :=
  concatenate (Tile n) 1 [⟨Tile l, x⟩, ⟨Tile m, y⟩] (tile_glues h)

/-- The columns that are the lower of their pair at distance `2 ^ s`, by the column numbers `C`. -/
def isLow (n s : ℕ) (C : IVec (Tile n) 32) : IVec (Tile n) 1 :=
  cmpi .eq (andi C (broadcast (Tile n) (BitVec.ofNat 32 (2 ^ s)))) (broadcast (Tile n) 0#32)

/-- The element of the pair's other column. -/
def partner (n s : ℕ) (h : 2 ^ s ≤ n) (C : IVec (Tile n) 32) (x : (Tile n).Idx → α) : (Tile n).Idx → α :=
  select (isLow n s C)
    (glue n (Nat.sub_add_cancel h) (cut (n - 2 ^ s) (2 ^ s) (Nat.add_sub_cancel' h).le x) (cut (2 ^ s) 0 ((Nat.zero_add _).trans_le h) x))
    (glue n (Nat.add_sub_cancel' h) (cut (2 ^ s) (n - 2 ^ s) (Nat.sub_add_cancel h).le x) (cut (n - 2 ^ s) 0 ((Nat.zero_add _).trans_le (Nat.sub_le _ _)) x))

/-- Equality of two truth values. -/
def same {s : Shape} (a b : IVec s 1) : IVec s 1 := xori (xori a b) (constantI s 1 1#1)

/-- One exchange of values and indices; `w` marks the columns that hold the greater. -/
def stage (n s : ℕ) (h : 2 ^ s ≤ n) (C : IVec (Tile n) 32) (w : IVec (Tile n) 1) (x : FVec F (Tile n) .f32 × IVec (Tile n) 32) :
    FVec F (Tile n) .f32 × IVec (Tile n) 32 :=
  (select (same (cmpf .ogt (partner n s h C x.1) x.1) w) (partner n s h C x.1) x.1,
   select (same (cmpf .ogt (partner n s h C x.1) x.1) w) (partner n s h C x.2) x.2)

/-- The exchanges at the distances `2 ^ (k - 1)`, …, `1`. -/
def stages (n : ℕ) (C : IVec (Tile n) 32) (w : ℕ → IVec (Tile n) 1) : (k : ℕ) → (∀ s < k, 2 ^ s ≤ n) →
    FVec F (Tile n) .f32 × IVec (Tile n) 32 → FVec F (Tile n) .f32 × IVec (Tile n) 32
  | 0, _, x => x
  | s + 1, h, x => stages n C w s (fun t ht => h t (ht.trans (Nat.lt_succ_self s))) (stage n s (h s (Nat.lt_succ_self s)) C (w s) x)

/-- The phases; `d` marks the columns of the blocks sorted downwards. -/
def roundsT (n : ℕ) (C : IVec (Tile n) 32) (d : IVec (Tile n) 1) : (k : ℕ) → (∀ s < k, 2 ^ s ≤ n) →
    FVec F (Tile n) .f32 × IVec (Tile n) 32 → FVec F (Tile n) .f32 × IVec (Tile n) 32
  | 0, _, x => x
  | k + 1, h, x => stages n C (fun s => same (isLow n s C) (same (isLow n (k + 1) C) d)) (k + 1) h
      (roundsT n C d k (fun t ht => h t (ht.trans (Nat.lt_succ_self k))) x)

theorem pow_le_of_lt {n : ℕ} (h : 512 ≤ n) (k : ℕ) (hk : k ≤ 9) : ∀ s < k, 2 ^ s ≤ n := fun s hs =>
  (Nat.pow_le_pow_right (by decide) (hs.le.trans hk)).trans h

/-- Every block of 512 columns sorted. -/
def sortT (n : ℕ) (hn : 512 ≤ n) (C : IVec (Tile n) 32) (d : IVec (Tile n) 1) (x : FVec F (Tile n) .f32 × IVec (Tile n) 32) :
    FVec F (Tile n) .f32 × IVec (Tile n) 32 :=
  stages n C (fun s => same (isLow n s C) d) 9 (pow_le_of_lt hn 9 (le_refl 9)) (roundsT n C d 8 (pow_le_of_lt hn 8 (by decide)) x)

/-- The first block of 512 columns, by the column numbers. -/
def firstT (n : ℕ) (C : IVec (Tile n) 32) : IVec (Tile n) 1 :=
  ori (broadcast (Tile n) 0#1) (cmpi .eq (shrui C (broadcast (Tile n) 9#32)) (broadcast (Tile n) 0#32))

/-- The first and the third block of 512 columns. -/
def evenT (n : ℕ) (C : IVec (Tile n) 32) : IVec (Tile n) 1 :=
  ori (firstT n C) (cmpi .eq (shrui C (broadcast (Tile n) 9#32)) (broadcast (Tile n) 2#32))

/-- The greater values of two blocks and their indices. -/
def foldT (a b : FVec F (Tile 512) .f32 × IVec (Tile 512) 32) : FVec F (Tile 512) .f32 × IVec (Tile 512) 32 :=
  (select (cmpf .ogt a.1 b.1) a.1 b.1, select (cmpf .ogt a.1 b.1) a.2 b.2)

/-- Two blocks merged downwards. -/
def mergeDown (C : IVec (Tile 512) 32) (a b : FVec F (Tile 512) .f32 × IVec (Tile 512) 32) : FVec F (Tile 512) .f32 × IVec (Tile 512) 32 :=
  stages 512 C (fun s => isLow 512 s C) 9 (pow_le_of_lt (le_refl 512) 9 (le_refl 9)) (foldT a b)

/-- Two blocks merged upwards. -/
def mergeUp (C : IVec (Tile 512) 32) (a b : FVec F (Tile 512) .f32 × IVec (Tile 512) 32) : FVec F (Tile 512) .f32 × IVec (Tile 512) 32 :=
  stages 512 C (fun s => xori (isLow 512 s C) (constantI (Tile 512) 1 1#1)) 9 (pow_le_of_lt (le_refl 512) 9 (le_refl 9)) (foldT a b)

/-- A block of 512 columns of values and indices. -/
def cutPair {n : ℕ} (off : ℕ) (h : off + 512 ≤ n) (x : FVec F (Tile n) .f32 × IVec (Tile n) 32) :
    FVec F (Tile 512) .f32 × IVec (Tile 512) 32 := (cut 512 off h x.1, cut 512 off h x.2)

/-- The first 512 of a row, by how many blocks of columns are looked at: values `v`, column numbers `C`. -/
def topT1 (v : FVec F (Tile 2048) .f32) (C : IVec (Tile 2048) 32) : FVec F (Tile 512) .f32 × IVec (Tile 512) 32 :=
  sortT 512 (le_refl 512) (cut 512 0 (by decide) C) (firstT 512 (cut 512 0 (by decide) C)) (cut 512 0 (by decide) v, cut 512 0 (by decide) C)

def sorted2 (v : FVec F (Tile 2048) .f32) (C : IVec (Tile 2048) 32) : FVec F (Tile 1024) .f32 × IVec (Tile 1024) 32 :=
  sortT 1024 (by decide) (cut 1024 0 (by decide) C) (firstT 1024 (cut 1024 0 (by decide) C)) (cut 1024 0 (by decide) v, cut 1024 0 (by decide) C)

def topT2 (v : FVec F (Tile 2048) .f32) (C : IVec (Tile 2048) 32) : FVec F (Tile 512) .f32 × IVec (Tile 512) 32 :=
  mergeDown (cut 512 0 (by decide) (cut 1024 0 (by decide) C)) (cutPair 0 (by decide) (sorted2 v C)) (cutPair 512 (by decide) (sorted2 v C))

def sorted3 (v : FVec F (Tile 2048) .f32) (C : IVec (Tile 2048) 32) : FVec F (Tile 1536) .f32 × IVec (Tile 1536) 32 :=
  sortT 1536 (by decide) (cut 1536 0 (by decide) C) (firstT 1536 (cut 1536 0 (by decide) C)) (cut 1536 0 (by decide) v, cut 1536 0 (by decide) C)

def topT3 (v : FVec F (Tile 2048) .f32) (C : IVec (Tile 2048) 32) : FVec F (Tile 512) .f32 × IVec (Tile 512) 32 :=
  mergeDown (cut 512 0 (by decide) (cut 1536 0 (by decide) C))
    (mergeDown (cut 512 0 (by decide) (cut 1536 0 (by decide) C)) (cutPair 0 (by decide) (sorted3 v C)) (cutPair 512 (by decide) (sorted3 v C)))
    (cutPair 1024 (by decide) (sorted3 v C))

def sorted4 (v : FVec F (Tile 2048) .f32) (C : IVec (Tile 2048) 32) : FVec F (Tile 2048) .f32 × IVec (Tile 2048) 32 :=
  sortT 2048 (by decide) C (evenT 2048 C) (v, C)

def topT4 (v : FVec F (Tile 2048) .f32) (C : IVec (Tile 2048) 32) : FVec F (Tile 512) .f32 × IVec (Tile 512) 32 :=
  mergeDown (cut 512 0 (by decide) C)
    (mergeDown (cut 512 0 (by decide) C) (cutPair 0 (by decide) (sorted4 v C)) (cutPair 512 (by decide) (sorted4 v C)))
    (mergeUp (cut 512 0 (by decide) C) (cutPair 1024 (by decide) (sorted4 v C)) (cutPair 1536 (by decide) (sorted4 v C)))

/-- The stored values: what lies below the mask's bound is the mask's value, what is tiny is zero. -/
def settle (v : FVec F (Tile 512) .f32) : FVec F (Tile 512) .f32 :=
  let u := select (cmpf .olt v (broadcast (Tile 512) (Scalar.ofBits .f32 0xCE6C08CE#32))) (broadcast (Tile 512) (Scalar.ofBits .f32 0xCE6E6B28#32)) v
  select (cmpf .olt (absf u) (broadcast (Tile 512) (Scalar.ofBits .f32 0x1E3CE508#32))) (broadcast (Tile 512) (Scalar.ofBits .f32 0x00000000#32)) u

end Indexer
-- ==== Proof.Score.lean ====
/-
  What one grid step of the score kernel computes before it sorts: the queries, head by head the rotation, the
  transform, the products with the keys, and the sum over the heads; then the keys the sort works with.
-/
module

public import proofs.«01_k».proof.Proof.Gen.KernelIdeal.Skeleton
public import proofs.«01_k».proof.Proof.Net

@[expose] public section

noncomputable section

namespace Indexer

open Idealize.ShloMosaic Cert.KernelIdeal Cert.KernelIdeal.Gen

variable {F : FTy → Type} [FloatOps F]

/-- The queries of the 256 rows, all heads side by side. -/
def queryT (qr : Vec F S256x1536 .f32) (wq : Vec F S2048x1536 .f32) : FVec F (Tile 2048) .f32 :=
  matmul dot_S256x1536_S2048x1536_S256x2048_1_1_0_0_n_n none qr wq (constant S256x2048 .f32 0x00000000#32)

/-- The rotation of the first 64 of 128 columns. -/
def ropeT (x : FVec F (Tile 128) .f32) (cos sin : FVec F (Tile 64) .f32) : FVec F (Tile 128) .f32 :=
  glue 128 rfl
    (addf (mulf (cut 64 0 (by decide) x) cos)
      (mulf (glue 64 rfl (subf (broadcast (Tile 32) (Scalar.ofBits .f32 0x00000000#32)) (cut 32 32 (by decide) (cut 64 0 (by decide) x)))
        (cut 32 0 (by decide) (cut 64 0 (by decide) x))) sin))
    (cut 64 64 (by decide) x)

/-- The rotated columns through the transform. -/
def spreadT (x : FVec F (Tile 128) .f32) (cos sin : FVec F (Tile 64) .f32) (had : Vec F S128x128 .f32) : FVec F (Tile 128) .f32 :=
  matmul dot_S256x128_S128x128_S256x128_1_0_0_1_n_n none (ropeT x cos sin) had (constant S256x128 .f32 0x00000000#32)

/-- One head's part of the scores. -/
def headT (q : FVec F (Tile 2048) .f32) (cos sin : FVec F (Tile 64) .f32) (wts : Vec F S256x16 .f32) (had : Vec F S128x128 .f32)
    (kh : Vec F S2048x128 .f32) (h : ℕ) (hh : h < 16) : FVec F (Tile 2048) .f32 :=
  mulf
    (extf .f32 (truncf .bf16 (maximumf
      (mulf (matmul dot_S256x128_S2048x128_S256x2048_1_1_0_0_n_n none (spreadT (cut 128 (128 * h) (by omega) q) cos sin had)
          (shapeCast S2048x128 kh shapeCasts_S2048x128_S2048x128) (constant S256x2048 .f32 0x00000000#32))
        (broadcast (Tile 2048) (Scalar.ofBits .f32 0x3DB504F3#32)))
      (broadcast (Tile 2048) (Scalar.ofBits .f32 0x00000000#32))) bitsLt_bf16_f32) bitsLt_bf16_f32)
    (broadcastTo (Tile 2048) (extf .f32 (truncf .bf16
      (cut 1 h (by omega) (shapeCast S256x16 wts shapeCasts_S256x16_S256x16)) bitsLt_bf16_f32) bitsLt_bf16_f32) broadcasts_S256x1_S256x2048)

/-- The heads' parts added up. -/
def headsT (q : FVec F (Tile 2048) .f32) (cos sin : FVec F (Tile 64) .f32) (wts : Vec F S256x16 .f32) (had : Vec F S128x128 .f32)
    (kh : Vec F S2048x128 .f32) : (k : ℕ) → k ≤ 16 → FVec F (Tile 2048) .f32
  | 0, _ => broadcast (Tile 2048) (Scalar.ofBits .f32 0x00000000#32)
  | k + 1, h => addf (headsT q cos sin wts had kh k ((Nat.le_succ k).trans h)) (headT q cos sin wts had kh k h)

/-- The column numbers. -/
def colsT : IVec (Tile 2048) 32 := iota .tc S256x2048 32 [1] iota_S256x2048_d1_w32

/-- The sort's values: a zero score counts down with the column, a masked column lies below the mask's value. -/
def keysT (i : BitVec 32) (s : FVec F (Tile 2048) .f32) : FVec F (Tile 2048) .f32 :=
  select (cmpi .sle colsT (addi (iota .tc S256x2048 32 [0] iota_S256x2048_d0_w32) (broadcast (Tile 2048) (Scalar.muli i 256#32))))
    (select (cmpf .oeq s (broadcast (Tile 2048) (Scalar.ofBits .f32 0x00000000#32)))
      (mulf (sitofp .f32 colsT) (broadcast (Tile 2048) (Scalar.ofBits .f32 0x8DA24260#32))) s)
    (subf (broadcast (Tile 2048) (Scalar.ofBits .f32 0xCE6E6B28#32))
      (mulf (broadcast (Tile 2048) (Scalar.ofBits .f32 0x42800000#32)) (sitofp .f32 colsT)))

/-- What the sort starts from, from the step's blocks. -/
def startT (i : BitVec 32) (qr : Vec F S256x1536 .f32) (wq : Vec F S2048x1536 .f32) (cos sin : Vec F S256x64 .f32) (wts : Vec F S256x16 .f32)
    (had : Vec F S128x128 .f32) (kh : Vec F S2048x128 .f32) : FVec F (Tile 2048) .f32 :=
  keysT i (headsT (queryT qr wq) cos sin wts had kh 16 (le_refl 16))

end Indexer
-- ==== Proof.Step.lean ====
/-
  What each grid step of the score kernel writes: of its 256 rows the first 512 of the sorted keys and their columns.  The
  kernel has a branch for every step; here each of the eight branches is shown to be one of the four networks.
-/
module

public import proofs.«01_k».proof.Proof.Gen.KernelIdeal.Frame.Region2
public import proofs.«01_k».proof.Proof.Score

@[expose] public section

set_option maxRecDepth 16384

noncomputable section

namespace Indexer

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)

variable {F : FTy → Type} [FloatOps F]

/-- What the arrays hold before the score kernel runs. -/
abbrev Held (F : FTy → Type) := (c : Dev nD) → (b : Ref sig .tc) → Buf (Elt F) ((c.tc : Thread nD τ).loc b)

/-- The keys of step `t`, from the blocks its windows read. -/
def stepT (V : Held F) (c : Dev nD) (t : Fin cfg2.N) : FVec F (Tile 2048) .f32 :=
  startT (BitVec.ofNat 32 (grid2.coords t 0)) (iblk2 V c 0 t) (iblk2 V c 1 t) (iblk2 V c 2 t) (iblk2 V c 3 t) (iblk2 V c 4 t)
    (iblk2 V c 5 t) (iblk2 V c 6 t)

/-- The same keys in the form the kernel loads its blocks in. -/
def loadedT (V : Held F) (c : Dev nD) (t : Fin cfg2.N) : FVec F (Tile 2048) .f32 :=
  startT (BitVec.ofNat 32 (grid2.coords t 0))
    (View.readAt (Elt F) (ms2_0 t).view (Rect.unit ![0, 0] S256x1536.size inb_S256x1536_S256x1536_0_0).toLoadRect ((hs2_0 t).unread (iblk2 V c 0 t)))
    (View.readAt (Elt F) (ms2_1 t).view (Rect.unit ![0, 0] S2048x1536.size inb_S2048x1536_S2048x1536_0_0).toLoadRect ((hs2_1 t).unread (iblk2 V c 1 t)))
    (View.readAt (Elt F) (ms2_2 t).view (Rect.unit ![0, 0] S256x64.size inb_S256x64_S256x64_0_0).toLoadRect ((hs2_2 t).unread (iblk2 V c 2 t)))
    (View.readAt (Elt F) (ms2_3 t).view (Rect.unit ![0, 0] S256x64.size inb_S256x64_S256x64_0_0).toLoadRect ((hs2_3 t).unread (iblk2 V c 3 t)))
    (View.readAt (Elt F) (ms2_4 t).view (Rect.unit ![0, 0] S256x16.size inb_S256x16_S256x16_0_0).toLoadRect ((hs2_4 t).unread (iblk2 V c 4 t)))
    (View.readAt (Elt F) (ms2_5 t).view (Rect.unit ![0, 0] S128x128.size inb_S128x128_S128x128_0_0).toLoadRect ((hs2_5 t).unread (iblk2 V c 5 t)))
    (View.readAt (Elt F) (ms2_6 t).view (Rect.unit ![0, 0] S2048x128.size inb_S2048x128_S2048x128_0_0).toLoadRect ((hs2_6 t).unread (iblk2 V c 6 t)))

/-- Loading a whole block gives the block. -/
theorem loadedT_eq (V : Held F) (c : Dev nD) (t : Fin cfg2.N) : loadedT V c t = stepT V c t := by
  unfold loadedT stepT
  rw [View.readAt_eq_ld, (hs2_0 t).read_unread, View.ld_unit_zero (S := S256x1536) (by decide),
    View.readAt_eq_ld, (hs2_1 t).read_unread, View.ld_unit_zero (S := S2048x1536) (by decide),
    View.readAt_eq_ld, (hs2_2 t).read_unread, View.ld_unit_zero (S := S256x64) (by decide),
    View.readAt_eq_ld, (hs2_3 t).read_unread, View.ld_unit_zero (S := S256x64) (by decide),
    View.readAt_eq_ld, (hs2_4 t).read_unread, View.ld_unit_zero (S := S256x16) (by decide),
    View.readAt_eq_ld, (hs2_5 t).read_unread, View.ld_unit_zero (S := S128x128) (by decide),
    View.readAt_eq_ld, (hs2_6 t).read_unread, View.ld_unit_zero (S := S2048x128) (by decide)]

/-- What a step writes, from what its network found. -/
def written (p : FVec F (Tile 512) .f32 × IVec (Tile 512) 32) : Vec F S256x512 .f32 × Vec F S256x512 .i32 := (settle p.1, p.2)

/-- Step 0 is the network for 512 columns. -/
theorem step_A (V : Held F) (c : Dev nD) (t : Fin cfg2.N) (h : t.val % 8 = 0) :
    outsAt2 V c t.val t.isLt = written (topT1 (loadedT V c t) colsT) := by
  rw [outsAt2_A V c t h (by omega) (by omega) (by omega) (by omega) (by omega) (by omega) (by omega)]
  refine Prod.ext ?_ ?_ <;> dsimp only
  · unfold out2_A_7
    rw [View.read_writes_eq_canon _ _ _ (cover2_A_7 c _ _ _ _ _ _ _ _ _ _ _ _ _ _ _ _ _ _ _ _ _ _ _ _ _ _ _ _ _ _ _ _ _ _)]
    unfold kernelRun2_A
    dsimp only
    rw [View.canon_unit_zero (by decide)]
    sl_kernel_rfl
  · unfold out2_A_8
    rw [View.read_writes_eq_canon _ _ _ (cover2_A_8 c _ _ _ _ _ _ _ _ _ _ _ _ _ _ _ _ _ _ _ _ _ _ _ _ _ _ _ _ _ _ _ _ _ _)]
    unfold kernelRun2_A
    dsimp only
    rw [View.canon_unit_zero (by decide)]
    sl_kernel_rfl

/-- Step 1 is the network for 512 columns. -/
theorem step_B (V : Held F) (c : Dev nD) (t : Fin cfg2.N) (h : t.val % 8 = 1) :
    outsAt2 V c t.val t.isLt = written (topT1 (loadedT V c t) colsT) := by
  rw [outsAt2_B V c t (by omega) h (by omega) (by omega) (by omega) (by omega) (by omega) (by omega)]
  refine Prod.ext ?_ ?_ <;> dsimp only
  · unfold out2_B_7
    rw [View.read_writes_eq_canon _ _ _ (cover2_B_7 c _ _ _ _ _ _ _ _ _ _ _ _ _ _ _ _ _ _ _ _ _ _ _ _ _ _ _ _ _ _ _ _ _ _)]
    unfold kernelRun2_B
    dsimp only
    rw [View.canon_unit_zero (by decide)]
    sl_kernel_rfl
  · unfold out2_B_8
    rw [View.read_writes_eq_canon _ _ _ (cover2_B_8 c _ _ _ _ _ _ _ _ _ _ _ _ _ _ _ _ _ _ _ _ _ _ _ _ _ _ _ _ _ _ _ _ _ _)]
    unfold kernelRun2_B
    dsimp only
    rw [View.canon_unit_zero (by decide)]
    sl_kernel_rfl

/-- Step 2 is the network for 1024 columns. -/
theorem step_C (V : Held F) (c : Dev nD) (t : Fin cfg2.N) (h : t.val % 8 = 2) :
    outsAt2 V c t.val t.isLt = written (topT2 (loadedT V c t) colsT) := by
  rw [outsAt2_C V c t (by omega) (by omega) h (by omega) (by omega) (by omega) (by omega) (by omega)]
  refine Prod.ext ?_ ?_ <;> dsimp only
  · unfold out2_C_7
    rw [View.read_writes_eq_canon _ _ _ (cover2_C_7 c _ _ _ _ _ _ _ _ _ _ _ _ _ _ _ _ _ _ _ _ _ _ _ _ _ _ _ _ _ _ _ _ _ _)]
    unfold kernelRun2_C
    dsimp only
    rw [View.canon_unit_zero (by decide)]
    sl_kernel_rfl
  · unfold out2_C_8
    rw [View.read_writes_eq_canon _ _ _ (cover2_C_8 c _ _ _ _ _ _ _ _ _ _ _ _ _ _ _ _ _ _ _ _ _ _ _ _ _ _ _ _ _ _ _ _ _ _)]
    unfold kernelRun2_C
    dsimp only
    rw [View.canon_unit_zero (by decide)]
    sl_kernel_rfl

/-- Step 3 is the network for 1024 columns. -/
theorem step_D (V : Held F) (c : Dev nD) (t : Fin cfg2.N) (h : t.val % 8 = 3) :
    outsAt2 V c t.val t.isLt = written (topT2 (loadedT V c t) colsT) := by
  rw [outsAt2_D V c t (by omega) (by omega) (by omega) h (by omega) (by omega) (by omega) (by omega)]
  refine Prod.ext ?_ ?_ <;> dsimp only
  · unfold out2_D_7
    rw [View.read_writes_eq_canon _ _ _ (cover2_D_7 c _ _ _ _ _ _ _ _ _ _ _ _ _ _ _ _ _ _ _ _ _ _ _ _ _ _ _ _ _ _ _ _ _ _)]
    unfold kernelRun2_D
    dsimp only
    rw [View.canon_unit_zero (by decide)]
    sl_kernel_rfl
  · unfold out2_D_8
    rw [View.read_writes_eq_canon _ _ _ (cover2_D_8 c _ _ _ _ _ _ _ _ _ _ _ _ _ _ _ _ _ _ _ _ _ _ _ _ _ _ _ _ _ _ _ _ _ _)]
    unfold kernelRun2_D
    dsimp only
    rw [View.canon_unit_zero (by decide)]
    sl_kernel_rfl

/-- Step 4 is the network for 1536 columns. -/
theorem step_E (V : Held F) (c : Dev nD) (t : Fin cfg2.N) (h : t.val % 8 = 4) :
    outsAt2 V c t.val t.isLt = written (topT3 (loadedT V c t) colsT) := by
  rw [outsAt2_E V c t (by omega) (by omega) (by omega) (by omega) h (by omega) (by omega) (by omega)]
  refine Prod.ext ?_ ?_ <;> dsimp only
  · unfold out2_E_7
    rw [View.read_writes_eq_canon _ _ _ (cover2_E_7 c _ _ _ _ _ _ _ _ _ _ _ _ _ _ _ _ _ _ _ _ _ _ _ _ _ _ _ _ _ _ _ _ _ _)]
    unfold kernelRun2_E
    dsimp only
    rw [View.canon_unit_zero (by decide)]
    sl_kernel_rfl
  · unfold out2_E_8
    rw [View.read_writes_eq_canon _ _ _ (cover2_E_8 c _ _ _ _ _ _ _ _ _ _ _ _ _ _ _ _ _ _ _ _ _ _ _ _ _ _ _ _ _ _ _ _ _ _)]
    unfold kernelRun2_E
    dsimp only
    rw [View.canon_unit_zero (by decide)]
    sl_kernel_rfl

/-- Step 5 is the network for 1536 columns. -/
theorem step_F (V : Held F) (c : Dev nD) (t : Fin cfg2.N) (h : t.val % 8 = 5) :
    outsAt2 V c t.val t.isLt = written (topT3 (loadedT V c t) colsT) := by
  rw [outsAt2_F V c t (by omega) (by omega) (by omega) (by omega) (by omega) h (by omega) (by omega)]
  refine Prod.ext ?_ ?_ <;> dsimp only
  · unfold out2_F_7
    rw [View.read_writes_eq_canon _ _ _ (cover2_F_7 c _ _ _ _ _ _ _ _ _ _ _ _ _ _ _ _ _ _ _ _ _ _ _ _ _ _ _ _ _ _ _ _ _ _)]
    unfold kernelRun2_F
    dsimp only
    rw [View.canon_unit_zero (by decide)]
    sl_kernel_rfl
  · unfold out2_F_8
    rw [View.read_writes_eq_canon _ _ _ (cover2_F_8 c _ _ _ _ _ _ _ _ _ _ _ _ _ _ _ _ _ _ _ _ _ _ _ _ _ _ _ _ _ _ _ _ _ _)]
    unfold kernelRun2_F
    dsimp only
    rw [View.canon_unit_zero (by decide)]
    sl_kernel_rfl

/-- Step 6 is the network for 2048 columns. -/
theorem step_G (V : Held F) (c : Dev nD) (t : Fin cfg2.N) (h : t.val % 8 = 6) :
    outsAt2 V c t.val t.isLt = written (topT4 (loadedT V c t) colsT) := by
  rw [outsAt2_G V c t (by omega) (by omega) (by omega) (by omega) (by omega) (by omega) h (by omega)]
  refine Prod.ext ?_ ?_ <;> dsimp only
  · unfold out2_G_7
    rw [View.read_writes_eq_canon _ _ _ (cover2_G_7 c _ _ _ _ _ _ _ _ _ _ _ _ _ _ _ _ _ _ _ _ _ _ _ _ _ _ _ _ _ _ _ _ _ _)]
    unfold kernelRun2_G
    dsimp only
    rw [View.canon_unit_zero (by decide)]
    sl_kernel_rfl
  · unfold out2_G_8
    rw [View.read_writes_eq_canon _ _ _ (cover2_G_8 c _ _ _ _ _ _ _ _ _ _ _ _ _ _ _ _ _ _ _ _ _ _ _ _ _ _ _ _ _ _ _ _ _ _)]
    unfold kernelRun2_G
    dsimp only
    rw [View.canon_unit_zero (by decide)]
    sl_kernel_rfl

/-- Step 7 is the network for 2048 columns. -/
theorem step_H (V : Held F) (c : Dev nD) (t : Fin cfg2.N) (h : t.val % 8 = 7) :
    outsAt2 V c t.val t.isLt = written (topT4 (loadedT V c t) colsT) := by
  rw [outsAt2_H V c t (by omega) (by omega) (by omega) (by omega) (by omega) (by omega) (by omega) h]
  refine Prod.ext ?_ ?_ <;> dsimp only
  · unfold out2_H_7
    rw [View.read_writes_eq_canon _ _ _ (cover2_H_7 c _ _ _ _ _ _ _ _ _ _ _ _ _ _ _ _ _ _ _ _ _ _ _ _ _ _ _ _ _ _ _ _ _ _)]
    unfold kernelRun2_H
    dsimp only
    rw [View.canon_unit_zero (by decide)]
    sl_kernel_rfl
  · unfold out2_H_8
    rw [View.read_writes_eq_canon _ _ _ (cover2_H_8 c _ _ _ _ _ _ _ _ _ _ _ _ _ _ _ _ _ _ _ _ _ _ _ _ _ _ _ _ _ _ _ _ _ _)]
    unfold kernelRun2_H
    dsimp only
    rw [View.canon_unit_zero (by decide)]
    sl_kernel_rfl

end Indexer
-- ==== Proof.NetRow.lean ====
/-
  One row of the network on blocks is the network on rows of pairs: row `r` of every block of `Net` that the network
  passes through is the row of `Rows` at the same place.
-/
module

public import proofs.«01_k».proof.Proof.Net

@[expose] public section

noncomputable section

namespace Indexer

open Idealize.ShloMosaic

variable {α : Type}

/-- Row `r`, column `p`. -/
def at2 {n : ℕ} (r : Fin 256) (p : ℕ) (h : p < n) : (Tile n).Idx := fun a => match a with | ⟨0, _⟩ => r | ⟨1, _⟩ => ⟨p, h⟩

theorem eq_at2 {n : ℕ} (j : (Tile n).Idx) : j = at2 (j 0) (j 1).val (j 1).isLt := by
  funext a; match a with | ⟨0, _⟩ => rfl | ⟨1, _⟩ => rfl

/-- Row `r` of `x` is `f`. -/
def RowIs {n : ℕ} (r : Fin 256) (x : (Tile n).Idx → α) (f : ℕ → α) : Prop := ∀ p (h : p < n), x (at2 r p h) = f p

/-- Row `r` of a block of truth values says `D`. -/
def Says {n : ℕ} (r : Fin 256) (x : IVec (Tile n) 1) (D : ℕ → Prop) : Prop := ∀ p (h : p < n), (x (at2 r p h) = 1#1 ↔ D p)

/-- Row `r` of values and indices is a row of pairs. -/
def PairIs {n : ℕ} (r : Fin 256) (x : FVec Ideal (Tile n) .f32 × IVec (Tile n) 32) (e : ℕ → EReal × BitVec 32) : Prop :=
  RowIs r x.1 (fun p => (e p).1) ∧ RowIs r x.2 (fun p => (e p).2)

theorem cut_row {n m off : ℕ} (h : off + m ≤ n) {r : Fin 256} {x : (Tile n).Idx → α} {f : ℕ → α} (hx : RowIs r x f) :
    RowIs r (cut m off h x) (fun p => f (off + p)) := by
  intro p hp
  show cut m off h x (at2 r p hp) = f (off + p)
  rw [← hx (off + p) (by omega)]
  unfold cut extractStridedSlice
  congr 1
  funext a
  match a with
  | ⟨0, _⟩ => exact Fin.ext (Nat.zero_add _)
  | ⟨1, _⟩ => rfl

theorem glue_row {l m n : ℕ} (h : l + m = n) {r : Fin 256} {x : (Tile l).Idx → α} {y : (Tile m).Idx → α} {f g : ℕ → α}
    (hx : RowIs r x f) (hy : RowIs r y g) : RowIs r (glue n h x y) (fun p => if p < l then f p else g (p - l)) := by
  intro p hp
  unfold glue
  rw [concatenate_pair_apply]
  show (if hlt : p < l then _ else _) = (if p < l then f p else g (p - l))
  by_cases hlt : p < l
  · rw [dif_pos hlt, if_pos hlt, ← hx p hlt]
    congr 1
    funext a
    match a with
    | ⟨0, _⟩ => rfl
    | ⟨1, _⟩ => rfl
  · rw [dif_neg hlt, if_neg hlt, ← hy (p - l) (by omega)]
    congr 1
    funext a
    match a with
    | ⟨0, _⟩ => rfl
    | ⟨1, _⟩ => rfl

theorem select_row {n : ℕ} {r : Fin 256} {c : IVec (Tile n) 1} {D : ℕ → Prop} [DecidablePred D] {x y : (Tile n).Idx → α} {f g : ℕ → α} (hc : Says r c D)
    (hx : RowIs r x f) (hy : RowIs r y g) : RowIs r (select c x y) (fun p => if D p then f p else g p) := by
  intro p hp
  show (if c (at2 r p hp) = 1#1 then x (at2 r p hp) else y (at2 r p hp)) = (if D p then f p else g p)
  rw [hx p hp, hy p hp]
  by_cases hd : D p
  · rw [if_pos hd, if_pos ((hc p hp).2 hd)]
  · rw [if_neg hd, if_neg fun h => hd ((hc p hp).1 h)]

theorem bit_same (a b : BitVec 1) : (a ^^^ b) ^^^ 1#1 = 1#1 ↔ (a = 1#1 ↔ b = 1#1) := by revert a b; decide

theorem bit_not (a : BitVec 1) : a ^^^ 1#1 = 1#1 ↔ ¬a = 1#1 := by revert a; decide

theorem bit_or (a b : BitVec 1) : a ||| b = 1#1 ↔ (a = 1#1 ∨ b = 1#1) := by revert a b; decide

theorem ofBool_one (b : Bool) : BitVec.ofBool b = 1#1 ↔ b = true := by revert b; decide

theorem same_row {n : ℕ} {r : Fin 256} {a b : IVec (Tile n) 1} {A B : ℕ → Prop} (ha : Says r a A) (hb : Says r b B) :
    Says r (same a b) (fun p => A p ↔ B p) := by
  intro p hp
  show (a (at2 r p hp) ^^^ b (at2 r p hp)) ^^^ 1#1 = 1#1 ↔ _
  rw [bit_same, ha p hp, hb p hp]

theorem not_row {n : ℕ} {r : Fin 256} {a : IVec (Tile n) 1} {A : ℕ → Prop} (ha : Says r a A) :
    Says r (xori a (constantI (Tile n) 1 1#1)) (fun p => ¬A p) := by
  intro p hp
  show a (at2 r p hp) ^^^ 1#1 = 1#1 ↔ _
  rw [bit_not, ha p hp]

theorem Says.congr {n : ℕ} {r : Fin 256} {a : IVec (Tile n) 1} {A B : ℕ → Prop} (ha : Says r a A) (h : ∀ p, A p ↔ B p) : Says r a B :=
  fun p hp => (ha p hp).trans (h p)

/-- Where "greater" holds, row by row. -/
theorem gt_row {n : ℕ} {r : Fin 256} {x y : FVec Ideal (Tile n) .f32} {f g : ℕ → EReal} (hx : RowIs r x f) (hy : RowIs r y g) :
    Says r (cmpf .ogt x y) (fun p => g p < f p) := by
  intro p hp
  show cmpf .ogt x y (at2 r p hp) = 1#1 ↔ g p < f p
  rw [← hx p hp, ← hy p hp]
  show BitVec.ofBool (decide _) = 1#1 ↔ _
  rw [ofBool_one, decide_eq_true_iff]

/-- The columns' numbers. -/
abbrev Cols {n : ℕ} (r : Fin 256) (C : IVec (Tile n) 32) : Prop := RowIs r C (fun p => BitVec.ofNat 32 p)

theorem and_pow_eq_zero {p s : ℕ} (hs : s < 32) (hp : p < 2 ^ 32) :
    BitVec.ofNat 32 p &&& BitVec.ofNat 32 (2 ^ s) = 0#32 ↔ Lower s p := by
  have h1 : (BitVec.ofNat 32 p &&& BitVec.ofNat 32 (2 ^ s)).toNat = p &&& 2 ^ s := by
    rw [BitVec.toNat_and, BitVec.toNat_ofNat, BitVec.toNat_ofNat, Nat.mod_eq_of_lt hp,
      Nat.mod_eq_of_lt (Nat.pow_lt_pow_right (by decide) hs)]
  have h2 : BitVec.ofNat 32 p &&& BitVec.ofNat 32 (2 ^ s) = 0#32 ↔ p &&& 2 ^ s = 0 := by
    constructor
    · intro h; rw [← h1, h]; rfl
    · intro h; apply BitVec.eq_of_toNat_eq; rw [h1, h]; rfl
  rw [h2, Nat.and_two_pow]
  unfold Lower
  have h3 : p % 2 ^ (s + 1) = p % 2 ^ s + 2 ^ s * (p / 2 ^ s % 2) := Nat.mod_pow_succ
  have h4 : p % 2 ^ s < 2 ^ s := Nat.mod_lt _ (Nat.two_pow_pos s)
  rw [Nat.testBit_eq_decide_div_mod_eq]
  rcases Nat.mod_two_eq_zero_or_one (p / 2 ^ s) with h | h
  · rw [h3, h]; simpa using h4
  · rw [h3, h]; simp

theorem isLow_row {n s : ℕ} (hn : n ≤ 2048) (hs : s < 32) {r : Fin 256} {C : IVec (Tile n) 32} (hC : Cols r C) :
    Says r (isLow n s C) (Lower s) := by
  intro p hp
  have hpp : p < 2 ^ 32 := by omega
  have hc : C (at2 r p hp) = BitVec.ofNat 32 p := hC p hp
  rw [← and_pow_eq_zero hs hpp, ← hc]
  show BitVec.ofBool (C (at2 r p hp) &&& BitVec.ofNat 32 (2 ^ s) == 0#32) = 1#1 ↔ _
  rw [ofBool_one, beq_iff_eq]

instance (s : ℕ) : DecidablePred (Lower s) := fun p => inferInstance

theorem partner_row {n s : ℕ} (h : 2 ^ s ≤ n) (hd : 2 ^ (s + 1) ∣ n) (hn : n ≤ 2048) (hs : s < 32) {r : Fin 256} {C : IVec (Tile n) 32}
    (hC : Cols r C) {x : (Tile n).Idx → α} {f : ℕ → α} (hx : RowIs r x f) : RowIs r (partner n s h C x) (fun p => f (other s p)) := by
  have hsel := select_row (isLow_row hn hs hC)
    (glue_row (Nat.sub_add_cancel h) (cut_row (Nat.add_sub_cancel' h).le hx) (cut_row ((Nat.zero_add _).trans_le h) hx))
    (glue_row (Nat.add_sub_cancel' h) (cut_row (Nat.sub_add_cancel h).le hx) (cut_row ((Nat.zero_add _).trans_le (Nat.sub_le _ _)) hx))
  intro p hp
  refine (hsel p hp).trans ?_
  have ho := other_lt hd hp
  show (if Lower s p then _ else _) = _
  unfold other at ho ⊢
  by_cases hl : Lower s p
  · simp only [if_pos hl] at ho ⊢
    rw [if_pos (by omega), Nat.add_comm]
  · simp only [if_neg hl] at ho ⊢
    have hge : ¬ p < 2 ^ s := fun hlt => hl (by
      unfold Lower; rw [Nat.mod_eq_of_lt (hlt.trans (Nat.pow_lt_pow_right (by decide) (Nat.lt_succ_self s)))]; exact hlt)
    rw [if_neg hge, Nat.zero_add]

theorem stage_row {n s : ℕ} (h : 2 ^ s ≤ n) (hd : 2 ^ (s + 1) ∣ n) (hn : n ≤ 2048) (hs : s < 32) {r : Fin 256} {C : IVec (Tile n) 32}
    (hC : Cols r C) {w : IVec (Tile n) 1} {W : ℕ → Prop} (hw : Says r w W)
    {x : FVec Ideal (Tile n) .f32 × IVec (Tile n) 32} {e : ℕ → EReal × BitVec 32} (hx : PairIs r x e) :
    PairIs r (stage n s h C w x) (swap s W e) := by
  classical
  have p1 := partner_row h hd hn hs hC hx.1
  have p2 := partner_row h hd hn hs hC hx.2
  have ht := same_row (gt_row p1 hx.1) hw
  constructor
  · intro p hp
    refine (select_row ht p1 hx.1 p hp).trans ?_
    dsimp only [swap]
    split <;> rfl
  · intro p hp
    refine (select_row ht p2 hx.2 p hp).trans ?_
    dsimp only [swap]
    split <;> rfl

theorem stages_row {n : ℕ} (hn : n ≤ 2048) {r : Fin 256} {C : IVec (Tile n) 32} (hC : Cols r C) {w : ℕ → IVec (Tile n) 1} {W : ℕ → ℕ → Prop} (k : ℕ) :
    ∀ (h : ∀ s < k, 2 ^ s ≤ n) (_ : 2 ^ k ∣ n) (_ : k ≤ 32) (_ : ∀ s < k, Says r (w s) (W s)) {x : FVec Ideal (Tile n) .f32 × IVec (Tile n) 32}
      {e : ℕ → EReal × BitVec 32} (_ : PairIs r x e), PairIs r (stages n C w k h x) (swaps W k e) := by
  induction k with
  | zero => exact fun _ _ _ _ _ _ hx => hx
  | succ k ih =>
    exact fun h hd hk hw _ _ hx => ih _ ((pow_dvd_pow 2 (Nat.le_succ k)).trans hd) (by omega) (fun s hs => hw s (by omega))
      (stage_row (h k (Nat.lt_succ_self k)) hd hn (by omega) hC (hw k (Nat.lt_succ_self k)) hx)

theorem rounds_row {n : ℕ} (hn : n ≤ 2048) {r : Fin 256} {C : IVec (Tile n) 32} (hC : Cols r C) {d : IVec (Tile n) 1} {D : ℕ → Prop} (hd : Says r d D)
    {x : FVec Ideal (Tile n) .f32 × IVec (Tile n) 32} {e : ℕ → EReal × BitVec 32} (hx : PairIs r x e) (k : ℕ) :
    ∀ (h : ∀ s < k, 2 ^ s ≤ n) (_ : 2 ^ k ∣ n) (_ : k ≤ 30), PairIs r (roundsT n C d k h x) (rounds D k e) := by
  induction k with
  | zero => exact fun _ _ _ => hx
  | succ k ih =>
    exact fun h hdv hk => stages_row hn hC (k + 1) h hdv (by omega)
      (fun s hs => same_row (isLow_row hn (by omega) hC) (same_row (isLow_row hn (by omega) hC) hd))
      (ih _ ((pow_dvd_pow 2 (Nat.le_succ k)).trans hdv) (by omega))

theorem sort_row {n : ℕ} (h512 : 512 ≤ n) (hdv : 512 ∣ n) (hn : n ≤ 2048) {r : Fin 256} {C : IVec (Tile n) 32} (hC : Cols r C) {d : IVec (Tile n) 1}
    {D : ℕ → Prop} (hd : Says r d D) {x : FVec Ideal (Tile n) .f32 × IVec (Tile n) 32} {e : ℕ → EReal × BitVec 32} (hx : PairIs r x e) :
    PairIs r (sortT n h512 C d x) (sortRow D 8 e) :=
  stages_row hn hC 9 _ hdv (by decide) (fun s hs => same_row (isLow_row hn (by omega) hC) hd)
    (rounds_row hn hC hd hx 8 _ (Nat.dvd_trans (by decide) hdv) (by decide))

theorem block_bit {p q : ℕ} (hp : p < 2048) (hq : q < 4) : (BitVec.ofNat 32 p >>> 9#32 = BitVec.ofNat 32 q ↔ p / 512 = q) := by
  have h1 : (BitVec.ofNat 32 p >>> 9#32).toNat = p / 512 := by
    rw [BitVec.ushiftRight_eq', BitVec.toNat_ushiftRight, BitVec.toNat_ofNat, Nat.mod_eq_of_lt (by omega), Nat.shiftRight_eq_div_pow]; rfl
  constructor
  · intro h; rw [← h1, h, BitVec.toNat_ofNat]; omega
  · intro h; apply BitVec.eq_of_toNat_eq; rw [h1, h, BitVec.toNat_ofNat]; omega

theorem block_row {n q : ℕ} (hn : n ≤ 2048) (hq : q < 4) {r : Fin 256} {C : IVec (Tile n) 32} (hC : Cols r C) :
    Says r (cmpi .eq (shrui C (broadcast (Tile n) 9#32)) (broadcast (Tile n) (BitVec.ofNat 32 q))) (fun p => p / 512 = q) := by
  intro p hp
  refine Iff.trans ?_ (block_bit (by omega : p < 2048) hq)
  have hc : C (at2 r p hp) = BitVec.ofNat 32 p := hC p hp
  rw [← hc]
  show BitVec.ofBool (C (at2 r p hp) >>> 9#32 == BitVec.ofNat 32 q) = 1#1 ↔ _
  rw [ofBool_one, beq_iff_eq]

theorem first_row {n : ℕ} (hn : n ≤ 2048) {r : Fin 256} {C : IVec (Tile n) 32} (hC : Cols r C) : Says r (firstT n C) firstDown := by
  intro p hp
  show 0#1 ||| _ = 1#1 ↔ _
  rw [bit_or]
  exact (or_iff_right (by decide)).trans (block_row hn (by decide : 0 < 4) hC p hp)

theorem even_row {n : ℕ} (hn : n ≤ 2048) {r : Fin 256} {C : IVec (Tile n) 32} (hC : Cols r C) : Says r (evenT n C) evenDown := by
  intro p hp
  show firstT n C (at2 r p hp) ||| _ = 1#1 ↔ _
  rw [bit_or]
  exact or_congr (first_row hn hC p hp) (block_row hn (by decide : 2 < 4) hC p hp)

theorem fold_row {r : Fin 256} {x y : FVec Ideal (Tile 512) .f32 × IVec (Tile 512) 32} {a b : ℕ → EReal × BitVec 32} (hx : PairIs r x a)
    (hy : PairIs r y b) : PairIs r (foldT x y) (fold a b) := by
  classical
  have ht := gt_row hx.1 hy.1
  constructor
  · intro p hp
    refine (select_row ht hx.1 hy.1 p hp).trans ?_
    dsimp only [fold]
    split <;> rfl
  · intro p hp
    refine (select_row ht hx.2 hy.2 p hp).trans ?_
    dsimp only [fold]
    split <;> rfl

theorem mergeDown_row {r : Fin 256} {C : IVec (Tile 512) 32} (hC : Cols r C) {x y : FVec Ideal (Tile 512) .f32 × IVec (Tile 512) 32}
    {a b : ℕ → EReal × BitVec 32} (hx : PairIs r x a) (hy : PairIs r y b) : PairIs r (mergeDown C x y) (mergeRow True 9 a b) :=
  stages_row (by decide) hC 9 _ (by decide) (by decide)
    (fun s hs => (isLow_row (by decide) (by omega) hC).congr fun p => by unfold toward; simp only [iff_true]) (fold_row hx hy)

theorem mergeUp_row {r : Fin 256} {C : IVec (Tile 512) 32} (hC : Cols r C) {x y : FVec Ideal (Tile 512) .f32 × IVec (Tile 512) 32}
    {a b : ℕ → EReal × BitVec 32} (hx : PairIs r x a) (hy : PairIs r y b) : PairIs r (mergeUp C x y) (mergeRow False 9 a b) :=
  stages_row (by decide) hC 9 _ (by decide) (by decide)
    (fun s hs => (not_row (isLow_row (by decide) (by omega) hC)).congr fun p => by unfold toward; simp only [iff_false]) (fold_row hx hy)

theorem cut0_row {n m : ℕ} {h : 0 + m ≤ n} {r : Fin 256} {x : (Tile n).Idx → α} {f : ℕ → α} (hx : RowIs r x f) : RowIs r (cut m 0 h x) f := by
  intro p hp
  refine (cut_row h hx p hp).trans ?_
  dsimp only
  rw [Nat.zero_add]

theorem cutPair_row {n : ℕ} (q : ℕ) (h : 512 * q + 512 ≤ n) {r : Fin 256} {x : FVec Ideal (Tile n) .f32 × IVec (Tile n) 32}
    {e : ℕ → EReal × BitVec 32} (hx : PairIs r x e) : PairIs r (cutPair (512 * q) h x) (piece e q) :=
  ⟨cut_row h hx.1, cut_row h hx.2⟩

section Tops

variable {r : Fin 256} {v : FVec Ideal (Tile 2048) .f32} {C : IVec (Tile 2048) 32} {e : ℕ → EReal × BitVec 32}

theorem topT1_row (hC : Cols r C) (hx : PairIs r (v, C) e) : PairIs r (topT1 v C) (top1 e) :=
  sort_row _ (by decide) (by decide) (cut0_row hC) (first_row (by decide) (cut0_row hC)) ⟨cut0_row (h := by decide) hx.1, cut0_row (h := by decide) hx.2⟩

theorem sorted2_row (hC : Cols r C) (hx : PairIs r (v, C) e) : PairIs r (sorted2 v C) (sortRow firstDown 8 e) :=
  sort_row _ (by decide) (by decide) (cut0_row hC) (first_row (by decide) (cut0_row hC)) ⟨cut0_row (h := by decide) hx.1, cut0_row (h := by decide) hx.2⟩

theorem topT2_row (hC : Cols r C) (hx : PairIs r (v, C) e) : PairIs r (topT2 v C) (top2 e) :=
  mergeDown_row (cut0_row (cut0_row hC)) (cutPair_row 0 _ (sorted2_row hC hx)) (cutPair_row 1 _ (sorted2_row hC hx))

theorem sorted3_row (hC : Cols r C) (hx : PairIs r (v, C) e) : PairIs r (sorted3 v C) (sortRow firstDown 8 e) :=
  sort_row _ (by decide) (by decide) (cut0_row hC) (first_row (by decide) (cut0_row hC)) ⟨cut0_row (h := by decide) hx.1, cut0_row (h := by decide) hx.2⟩

theorem topT3_row (hC : Cols r C) (hx : PairIs r (v, C) e) : PairIs r (topT3 v C) (top3 e) :=
  mergeDown_row (cut0_row (cut0_row hC))
    (mergeDown_row (cut0_row (cut0_row hC)) (cutPair_row 0 _ (sorted3_row hC hx)) (cutPair_row 1 _ (sorted3_row hC hx)))
    (cutPair_row 2 _ (sorted3_row hC hx))

theorem sorted4_row (hC : Cols r C) (hx : PairIs r (v, C) e) : PairIs r (sorted4 v C) (sortRow evenDown 8 e) :=
  sort_row _ (by decide) (by decide) hC (even_row (by decide) hC) hx

theorem topT4_row (hC : Cols r C) (hx : PairIs r (v, C) e) : PairIs r (topT4 v C) (top4 e) :=
  mergeDown_row (cut0_row hC)
    (mergeDown_row (cut0_row hC) (cutPair_row 0 _ (sorted4_row hC hx)) (cutPair_row 1 _ (sorted4_row hC hx)))
    (mergeUp_row (cut0_row hC) (cutPair_row 2 _ (sorted4_row hC hx)) (cutPair_row 3 _ (sorted4_row hC hx)))

end Tops

end Indexer
-- ==== Proof.Ranks.lean ====
/-
  The stable sort that the reference's top-k is: greater keys first, of equal keys the lower column.  Its position `p` holds
  the column that `p` columns come before, and a threshold is passed by as many of its first positions as it is by columns.
-/
module

public import proofs.«01_k».proof.Proof.Rows
public import Idealize.ShloMosaic.Lib.SortFacts

@[expose] public section

namespace Indexer

open Finset Idealize.ShloMosaic

variable {E : Type} [LinearOrder E]

/-- Column `a` comes before column `b`. -/
def Before (x : ℕ → E) (a b : ℕ) : Prop := x b < x a ∨ (x a = x b ∧ a < b)

theorem Before.asymm {x : ℕ → E} {a b : ℕ} (h : Before x a b) (h' : Before x b a) : False := by
  rcases h with h | ⟨h, l⟩ <;> rcases h' with h' | ⟨h', l'⟩
  · exact lt_asymm h h'
  · rw [h'] at h; exact lt_irrefl _ h
  · rw [h] at h'; exact lt_irrefl _ h'
  · omega

theorem Before.le {x : ℕ → E} {a b : ℕ} (h : Before x a b) : x b ≤ x a := by
  rcases h with h | ⟨h, _⟩
  · exact h.le
  · exact h.ge

theorem Before.total (x : ℕ → E) {a b : ℕ} (h : a ≠ b) : Before x a b ∨ Before x b a := by
  rcases lt_trichotomy (x a) (x b) with l | l | l
  · exact .inr (.inl l)
  · rcases Nat.lt_or_gt_of_ne h with k | k
    · exact .inl (.inr ⟨l, k⟩)
    · exact .inr (.inr ⟨l.symm, k⟩)
  · exact .inl (.inl l)

theorem Before.trans {x : ℕ → E} {a b c : ℕ} (h : Before x a b) (h' : Before x b c) : Before x a c := by
  rcases h with h | ⟨h, l⟩ <;> rcases h' with h' | ⟨h', l'⟩
  · exact .inl (h'.trans h)
  · exact .inl (h' ▸ h)
  · exact .inl (h ▸ h')
  · exact .inr ⟨h.trans h', l.trans l'⟩

/-- "`k` sorts strictly before `k'`": its key is the greater. -/
def greater (x : ℕ → E) (n : ℕ) (k k' : Fin n) : Bool := decide (x k'.val < x k.val)

theorem mem_insertBefore {ι : Type} (B : ι → ι → Bool) (a : ι) : ∀ (l : List ι) (y : ι), y ∈ insertBefore B a l → y = a ∨ y ∈ l
  | [], y, h => by
    unfold insertBefore at h
    exact .inl (List.mem_singleton.mp h)
  | b :: l, y, h => by
    unfold insertBefore at h
    split at h
    · rcases List.mem_cons.mp h with h | h
      · exact .inr (h ▸ List.mem_cons_self)
      · rcases mem_insertBefore B a l y h with h | h
        · exact .inl h
        · exact .inr (List.mem_cons_of_mem _ h)
    · exact List.mem_cons.mp h

theorem mem_stableSort {ι : Type} (B : ι → ι → Bool) : ∀ (l : List ι) (y : ι), y ∈ stableSort B l → y ∈ l
  | [], _, h => h
  | a :: l, y, h => by
    unfold stableSort at h
    rcases mem_insertBefore B a _ y h with h | h
    · exact h ▸ List.mem_cons_self
    · exact List.mem_cons_of_mem _ (mem_stableSort B l y h)

/-- Inserting a column before higher ones keeps the list in order. -/
theorem insert_ordered (x : ℕ → E) {n : ℕ} (a : Fin n) : ∀ l : List (Fin n), (∀ b ∈ l, a < b) →
    l.Pairwise (fun a b => Before x a.val b.val) → (insertBefore (greater x n) a l).Pairwise (fun a b => Before x a.val b.val)
  | [], _, _ => by unfold insertBefore; exact List.pairwise_singleton _ _
  | b :: l, hl, hp => by
    obtain ⟨h1, h2⟩ := List.pairwise_cons.mp hp
    unfold insertBefore
    split
    · rename_i hb
      refine List.pairwise_cons.mpr ⟨fun y hy => ?_, insert_ordered x a l (fun c hc => hl c (List.mem_cons_of_mem _ hc)) h2⟩
      rcases mem_insertBefore _ a l y hy with h | h
      · subst h; exact .inl (of_decide_eq_true hb)
      · exact h1 y h
    · rename_i hb
      have hb' : x b.val ≤ x a.val := not_lt.mp fun h => hb (decide_eq_true h)
      have hab : Before x a.val b.val := by
        rcases hb'.lt_or_eq with h | h
        · exact .inl h
        · exact .inr ⟨h.symm, hl b List.mem_cons_self⟩
      refine List.pairwise_cons.mpr ⟨fun y hy => ?_, hp⟩
      rcases List.mem_cons.mp hy with h | h
      · exact h ▸ hab
      · exact hab.trans (h1 y h)

/-- The stable sort of increasing columns is in order. -/
theorem sort_ordered (x : ℕ → E) {n : ℕ} : ∀ l : List (Fin n), l.Pairwise (· < ·) →
    (stableSort (greater x n) l).Pairwise (fun a b => Before x a.val b.val)
  | [], _ => List.Pairwise.nil
  | a :: l, hp => by
    obtain ⟨h1, h2⟩ := List.pairwise_cons.mp hp
    unfold stableSort
    exact insert_ordered x a _ (fun b hb => h1 b (mem_stableSort _ l b hb)) (sort_ordered x l h2)

/-- The column at position `k` of the sorted row. -/
def source (x : ℕ → E) (n : ℕ) (k : Fin n) : Fin n := sortedFrom (greater x n) k

theorem source_ordered (x : ℕ → E) {n : ℕ} {i j : Fin n} (h : i < j) : Before x (source x n i).val (source x n j).val := by
  have hp := List.pairwise_iff_get.mp (sort_ordered x (List.finRange n) (List.pairwise_lt_finRange n))
  exact hp _ _ h

theorem source_bijective (x : ℕ → E) (n : ℕ) : Function.Bijective (source x n) :=
  ⟨sortedFrom_injective _, sortedFrom_surjective _⟩

/-- Counting over the columns is counting over the positions. -/
theorem cnt_source (x : ℕ → E) (n : ℕ) (b : ℕ → Prop) :
    cnt b 0 n = cnt (fun k => ∃ h : k < n, b (source x n ⟨k, h⟩).val) 0 n := by
  classical
  unfold cnt
  rw [Finset.sum_range, Finset.sum_range, ← (source_bijective x n).sum_comp]
  refine Finset.sum_congr rfl fun i _ => ?_
  have : (b (0 + (source x n i).val)) ↔ (∃ h : 0 + i.val < n, b (source x n ⟨0 + i.val, h⟩).val) := by
    simp only [Nat.zero_add]
    exact ⟨fun h => ⟨i.isLt, h⟩, fun ⟨_, h⟩ => h⟩
  by_cases h : b (0 + (source x n i).val)
  · rw [if_pos h, if_pos (this.mp h)]
  · rw [if_neg h, if_neg fun k => h (this.mpr k)]

/-- As many columns come before the one at position `p` as `p` says. -/
theorem source_rank (x : ℕ → E) {n : ℕ} (p : Fin n) : cnt (fun c => Before x c (source x n p).val) 0 n = p.val := by
  rw [cnt_source x]
  refine cnt_lt _ 0 n p.val p.isLt.le fun i hi => ?_
  simp only [Nat.zero_add]
  constructor
  · rintro ⟨_, h⟩
    by_contra hc
    rcases Nat.lt_or_ge p.val i with k | k
    · exact h.asymm (source_ordered x (i := p) (j := ⟨i, hi⟩) k)
    · have : (⟨i, hi⟩ : Fin n) = p := Fin.ext (show i = p.val by omega)
      rw [this] at h
      exact h.asymm h
  · intro h
    exact ⟨hi, source_ordered x (i := ⟨i, hi⟩) (j := p) h⟩

/-- The key at position `p` reaches a threshold exactly if more than `p` columns do. -/
theorem source_passed (x : ℕ → E) {n : ℕ} (p : Fin n) (T : E) :
    T ≤ x (source x n p).val ↔ p.val < cnt (fun c => T ≤ x c) 0 n := by
  have hmono : ∀ i j : Fin n, i ≤ j → x (source x n j).val ≤ x (source x n i).val := fun i j h => by
    rcases h.lt_or_eq with h | h
    · exact (source_ordered x h).le
    · rw [h]
  have e1 : cnt (fun c => Before x c (source x n p).val) 0 n = p.val := source_rank x p
  constructor
  · intro h
    rw [cnt_source x]
    have hp := cnt_add (fun k => ∃ h : k < n, T ≤ x (source x n ⟨k, h⟩).val) 0 (p.val + 1) (n - (p.val + 1))
    rw [Nat.add_sub_cancel' p.isLt] at hp
    rw [hp]
    have : cnt (fun k => ∃ h : k < n, T ≤ x (source x n ⟨k, h⟩).val) 0 (p.val + 1) = p.val + 1 :=
      cnt_lt _ 0 _ _ (le_refl _) fun i hi => by
        simp only [Nat.zero_add]
        refine ⟨fun _ => hi, fun _ => ⟨by have := p.isLt; omega, h.trans (hmono _ _ ?_)⟩⟩
        exact Nat.lt_succ_iff.mp hi
    rw [this]
    omega
  · intro h
    by_contra hc
    rw [cnt_source x] at h
    have h0 : cnt (fun k => ∃ h : k < n, T ≤ x (source x n ⟨k, h⟩).val) (0 + p.val) (n - p.val) = 0 :=
      cnt_lt _ _ _ 0 (Nat.zero_le _) fun i hi => by
        refine ⟨fun ⟨hk, h⟩ => absurd (h.trans (hmono p _ ?_)) hc, fun h => absurd h (Nat.not_lt_zero _)⟩
        show p.val ≤ 0 + p.val + i
        omega
    have h1 := cnt_add (fun k => ∃ h : k < n, T ≤ x (source x n ⟨k, h⟩).val) 0 p.val (n - p.val)
    rw [Nat.add_sub_cancel' p.isLt.le, h0] at h1
    have := cnt_le (fun k => ∃ h : k < n, T ≤ x (source x n ⟨k, h⟩).val) 0 p.val
    omega

/-- The columns' ranks are different. -/
theorem rank_injective (x : ℕ → E) {n a b : ℕ} (ha : a < n) (hb : b < n)
    (h : cnt (fun c => Before x c a) 0 n = cnt (fun c => Before x c b) 0 n) : a = b := by
  obtain ⟨i, hi⟩ := (source_bijective x n).2 ⟨a, ha⟩
  obtain ⟨j, hj⟩ := (source_bijective x n).2 ⟨b, hb⟩
  have ea : a = (source x n i).val := by rw [hi]
  have eb : b = (source x n j).val := by rw [hj]
  rw [ea, eb, source_rank, source_rank] at h
  rw [ea, eb, Fin.ext h]

end Indexer
-- ==== Proof.Keys.lean ====
/-
  The keys of one row: where a network has selected the first 512 of them, the stored values and columns are those of the
  stable sort of the masked scores.
-/
module

public import proofs.«01_k».proof.Proof.Ranks
public import Mathlib.Data.EReal.Operations
public import Mathlib.Tactic.NormNum
public import Mathlib.Tactic.Linarith
public import Mathlib.Tactic.Positivity

@[expose] public section

noncomputable section

namespace Indexer

open Finset

/-- The constants of the keys: the mask's value, the bound below which the mask's value is stored, the size below which
zero is, and the step by which zeros count down. -/
structure Consts where
  (neg bound tiny step : ℝ)
  neg_lt : neg < bound
  bound_lt : bound < -tiny
  tiny_pos : 0 < tiny
  step_pos : 0 < step
  steps : 2048 * step < tiny

namespace Consts

variable (K : Consts)

/-- What is stored for a key. -/
def store (v : EReal) : EReal :=
  if max (if v < K.bound then (K.neg : EReal) else v) (-(if v < K.bound then (K.neg : EReal) else v)) < K.tiny then 0
  else if v < K.bound then (K.neg : EReal) else v

/-- The key of column `c` in row `R`. -/
def key (R : ℕ) (s : ℕ → EReal) (c : ℕ) : EReal :=
  if c ≤ R then (if s c = 0 then ((c : ℝ) : EReal) * ((-K.step : ℝ) : EReal) else s c)
  else (K.neg : EReal) - ((64 : ℝ) : EReal) * ((c : ℝ) : EReal)

/-- The masked score. -/
def masked (R : ℕ) (s : ℕ → EReal) (c : ℕ) : EReal := if c ≤ R then s c else (K.neg : EReal)

/-- A score is zero, or neither tiny nor below the bound. -/
def Plain (R : ℕ) (s : ℕ → EReal) : Prop := ∀ c ≤ R, s c = 0 ∨ ((K.tiny : EReal) ≤ max (s c) (-(s c)) ∧ (K.bound : EReal) ≤ s c)

/-- No two scores are equal unless they are zero. -/
def Apart (R : ℕ) (s : ℕ → EReal) : Prop := ∀ a b, a < b → b ≤ R → s a = s b → s a = 0

theorem neg_neg' : K.neg < 0 := by have := K.neg_lt; have := K.bound_lt; have := K.tiny_pos; linarith

/-- A key is a zero's, a score's, or a masked column's. -/
theorem key_zero {R c : ℕ} {s : ℕ → EReal} (h : c ≤ R) (h0 : s c = 0) : K.key R s c = ((-(c * K.step) : ℝ) : EReal) := by
  unfold key
  rw [if_pos h, if_pos h0, ← EReal.coe_mul]
  congr 1
  ring

theorem key_score {R c : ℕ} {s : ℕ → EReal} (h : c ≤ R) (h0 : s c ≠ 0) : K.key R s c = s c := by
  unfold key
  rw [if_pos h, if_neg h0]

theorem key_masked {R c : ℕ} {s : ℕ → EReal} (h : R < c) : K.key R s c = ((K.neg - 64 * c : ℝ) : EReal) := by
  unfold key
  rw [if_neg (Nat.not_le.mpr h), EReal.coe_sub, EReal.coe_mul]

theorem step_lt {c : ℕ} (h : c < 2048) : (c : ℝ) * K.step < K.tiny := by
  have h1 : (c : ℝ) ≤ 2048 := by exact_mod_cast h.le
  have := mul_le_mul_of_nonneg_right h1 K.step_pos.le
  have := K.steps
  linarith

theorem step_nonneg (c : ℕ) : 0 ≤ (c : ℝ) * K.step := mul_nonneg (Nat.cast_nonneg c) K.step_pos.le

/-- Storing keeps the order. -/
theorem store_mono {v w : EReal} (h : v ≤ w) : K.store v ≤ K.store w := by
  have hu : (if v < K.bound then (K.neg : EReal) else v) ≤ (if w < K.bound then (K.neg : EReal) else w) := by
    split
    · split
      · exact le_refl _
      · rename_i hw
        exact (EReal.coe_le_coe_iff.mpr K.neg_lt.le).trans (not_lt.mp hw)
    · rename_i hv
      rw [if_neg fun hw => hv (h.trans_lt hw)]
      exact h
  unfold store
  generalize (if v < K.bound then (K.neg : EReal) else v) = a at hu ⊢
  generalize (if w < K.bound then (K.neg : EReal) else w) = b at hu ⊢
  have ht : (0 : EReal) < K.tiny := EReal.coe_pos.mpr K.tiny_pos
  split
  · rename_i ha
    split
    · exact le_refl _
    · rename_i hb
      rcases le_max_iff.mp (not_lt.mp hb) with h1 | h1
      · exact ht.le.trans h1
      · have h2 : -b ≤ -a := EReal.neg_le_neg_iff.mpr hu
        exact absurd (h1.trans (h2.trans (le_max_right a (-a)))) (not_le.mpr ha)
  · rename_i ha
    split
    · rename_i hb
      rcases le_max_iff.mp (not_lt.mp ha) with h1 | h1
      · exact absurd (h1.trans (hu.trans (le_max_left b (-b)))) (not_le.mpr hb)
      · have h2 : (0 : EReal) < -a := ht.trans_le h1
        have h3 := EReal.neg_lt_neg_iff.mpr h2
        rw [neg_neg, neg_zero] at h3
        exact h3.le
    · exact hu

theorem store_big {v : EReal} (hb : (K.bound : EReal) ≤ v) (ht : (K.tiny : EReal) ≤ max v (-v)) : K.store v = v := by
  unfold store
  rw [if_neg (not_lt.mpr hb), if_neg (not_lt.mpr ht)]

theorem store_low {v : EReal} (h : v < K.bound) : K.store v = K.neg := by
  unfold store
  rw [if_pos h, if_neg]
  refine not_lt.mpr (le_max_of_le_right ?_)
  rw [← EReal.coe_neg, EReal.coe_le_coe_iff]
  have := K.neg_lt; have := K.bound_lt
  linarith

theorem store_tiny {x : ℝ} (h : -K.tiny < x) (h' : x < K.tiny) : K.store (x : EReal) = 0 := by
  unfold store
  rw [if_neg (not_lt.mpr (EReal.coe_le_coe_iff.mpr (by have := K.bound_lt; linarith))), if_pos]
  rw [max_lt_iff, ← EReal.coe_neg, EReal.coe_lt_coe_iff, EReal.coe_lt_coe_iff]
  constructor <;> linarith

variable {K}
variable {R : ℕ} {s : ℕ → EReal}

/-- What is stored for a column's key is its masked score. -/
theorem store_key (hs : K.Plain R s) {c : ℕ} (hc : c < 2048) : K.store (K.key R s c) = K.masked R s c := by
  unfold masked
  by_cases h : c ≤ R
  · rw [if_pos h]
    by_cases h0 : s c = 0
    · rw [K.key_zero h h0, h0, K.store_tiny] <;> have h1 := K.step_lt hc <;> have h2 := K.step_nonneg c <;> have := K.tiny_pos <;> linarith
    · rw [K.key_score h h0]
      rcases hs c h with e | e
      · exact absurd e h0
      · exact K.store_big e.2 e.1
  · rw [if_neg h, K.key_masked (Nat.not_le.mp h), K.store_low]
    rw [EReal.coe_lt_coe_iff]
    have := K.neg_lt
    have : (0 : ℝ) ≤ c := Nat.cast_nonneg c
    linarith

/-- Above the diagonal nothing lies below the bound. -/
theorem bound_le_key (hs : K.Plain R s) {c : ℕ} (hc : c < 2048) (h : c ≤ R) : (K.bound : EReal) ≤ K.key R s c := by
  by_cases h0 : s c = 0
  · rw [K.key_zero h h0, EReal.coe_le_coe_iff]
    have h1 := K.step_lt hc; have := K.bound_lt
    linarith
  · rw [K.key_score h h0]
    rcases hs c h with e | e
    · exact absurd e h0
    · exact e.2

theorem neg_le_masked (hs : K.Plain R s) (c : ℕ) : (K.neg : EReal) ≤ K.masked R s c := by
  unfold masked
  split
  · rename_i h
    rcases hs c h with e | e
    · rw [e]; exact EReal.coe_nonpos.mpr K.neg_neg'.le
    · exact (EReal.coe_le_coe_iff.mpr K.neg_lt.le).trans e.2
  · exact le_refl _

/-- The keys order the columns as the stable sort of the masked scores does. -/
theorem key_lt_iff (hs : K.Plain R s) (ha : Apart R s) {a b : ℕ} (hA : a < 2048) (hB : b < 2048) :
    K.key R s b < K.key R s a ↔ Before (K.masked R s) a b := by
  have one : ∀ a b, a < 2048 → b < 2048 → Before (K.masked R s) a b → K.key R s b < K.key R s a := by
    intro a b hA hB h
    by_contra hc
    have hle : K.key R s a ≤ K.key R s b := not_lt.mp hc
    have hm := K.store_mono hle
    rw [store_key hs hA, store_key hs hB] at hm
    rcases h with h | ⟨h, l⟩
    · exact absurd hm (not_le.mpr h)
    · unfold masked at h
      by_cases hbR : b ≤ R
      · have haR : a ≤ R := l.le.trans hbR
        rw [if_pos haR, if_pos hbR] at h
        have h0 := ha a b l hbR h
        have h0' : s b = 0 := h ▸ h0
        rw [K.key_zero haR h0, K.key_zero hbR h0', EReal.coe_le_coe_iff] at hle
        have : (a : ℝ) * K.step < b * K.step := mul_lt_mul_of_pos_right (by exact_mod_cast l) K.step_pos
        linarith
      · by_cases haR : a ≤ R
        · have h1 := bound_le_key hs hA haR
          rw [K.key_masked (Nat.not_le.mp hbR)] at hle
          have h2 := EReal.coe_le_coe_iff.mp (h1.trans hle)
          have := K.neg_lt
          have : (0 : ℝ) ≤ b := Nat.cast_nonneg b
          linarith
        · rw [K.key_masked (Nat.not_le.mp hbR), K.key_masked (Nat.not_le.mp haR), EReal.coe_le_coe_iff] at hle
          have : (a : ℝ) < b := by exact_mod_cast l
          linarith
  refine ⟨fun h => ?_, one a b hA hB⟩
  by_cases e : a = b
  · rw [e] at h; exact absurd h (lt_irrefl _)
  · rcases Before.total (K.masked R s) e with k | k
    · exact k
    · exact absurd h (lt_asymm (one b a hB hA k))

/-- Of the 2048 columns, those left out by a row's first `n` are masked: they pass no threshold above the mask's value. -/
theorem cnt_rest {n : ℕ} (hn : n ≤ 2048) (b : ℕ → Prop) (h : ∀ c, n ≤ c → c < 2048 → ¬b c) : cnt b 0 2048 = cnt b 0 n := by
  have e := cnt_add b 0 n (2048 - n)
  rw [Nat.add_sub_cancel' hn] at e
  have z : cnt b (0 + n) (2048 - n) = 0 := cnt_lt _ _ _ 0 (Nat.zero_le _) fun i hi =>
    ⟨fun k => absurd k (h _ (by omega) (by omega)), fun k => absurd k (Nat.not_lt_zero _)⟩
  rw [e, z, Nat.add_zero]

variable {I : Type} {n : ℕ} {e t : ℕ → EReal × I} {C : ℕ → I}

/-- The stored values are the sorted masked scores. -/
theorem values_eq (hs : K.Plain R s) (hn : n ≤ 2048) (hk : 512 ≤ n) (hR : R < n) (he : ∀ p < n, (e p).1 = K.key R s p)
    (ht : Selects n e t) {p : ℕ} (hp : p < 512) :
    K.store (t p).1 = K.masked R s (source (K.masked R s) 2048 ⟨p, by omega⟩).val := by
  have key : ∀ T : EReal, T ≤ K.store (t p).1 ↔ T ≤ K.masked R s (source (K.masked R s) 2048 ⟨p, by omega⟩).val := by
    intro T
    rw [ht.passed (fun v => T ≤ K.store v) (fun x y h k => le_trans k (K.store_mono h)) p hp, source_passed]
    have e1 : cnt (above (fun v => T ≤ K.store v) e) 0 n = cnt (fun c => T ≤ K.masked R s c) 0 n := cnt_congr fun i hi => by
      rw [Nat.zero_add]
      unfold above
      show T ≤ K.store (e i).1 ↔ _
      rw [he i hi, store_key hs (by omega)]
    rw [e1]
    by_cases hT : T ≤ K.neg
    · have all : ∀ m, cnt (fun c => T ≤ K.masked R s c) 0 m = m := fun m => cnt_lt _ 0 m m (le_refl _) fun i hi =>
        ⟨fun _ => hi, fun _ => hT.trans (neg_le_masked hs _)⟩
      rw [all, all]
      show p < n ↔ p < 2048
      omega
    · rw [cnt_rest hn _ fun c h1 _ h2 => hT ?_]
      unfold masked at h2
      rwa [if_neg (by omega)] at h2
  exact le_antisymm ((key _).mp (le_refl _)) ((key _).mpr (le_refl _))

/-- The columns are the sorted ones. -/
theorem columns_eq (hs : K.Plain R s) (ha : Apart R s) (hn : n ≤ 2048) (hR : R < n)
    (he : ∀ p < n, e p = (K.key R s p, C p)) (ht : Selects n e t) {p : ℕ} (hp : p < 512) (hk : 512 ≤ n) :
    (t p).2 = C (source (K.masked R s) 2048 ⟨p, by omega⟩).val := by
  obtain ⟨c, hc, h1, h2⟩ := ht.from_row (fun x => ∃ c, c < n ∧ x.1 = K.key R s c ∧ x.2 = C c)
    (fun q hq => ⟨q, hq, by rw [he q hq], by rw [he q hq]⟩) p hp
  have above_iff : ∀ (P : EReal → Prop), cnt (above P e) 0 n = cnt (fun a => P (K.key R s a)) 0 n := fun P =>
    cnt_congr fun i hi => by
      rw [Nat.zero_add]
      unfold above
      rw [he i hi]
  -- strictly above the column's key lie at most `p` keys
  have up : ¬ p < cnt (fun a => K.key R s c < K.key R s a) 0 n := by
    rw [← above_iff fun v => K.key R s c < v, ← ht.passed _ (fun x y h k => lt_of_lt_of_le k h) p hp, h1]
    exact lt_irrefl _
  -- and with its own more than `p`
  have lo : p < cnt (fun a => K.key R s c ≤ K.key R s a) 0 n := by
    rw [← above_iff fun v => K.key R s c ≤ v, ← ht.passed _ (fun x y h k => le_trans k h) p hp, h1]
  have split : cnt (fun a => K.key R s c ≤ K.key R s a) 0 n = cnt (fun a => K.key R s c < K.key R s a) 0 n + 1 := by
    obtain ⟨d, rfl⟩ : ∃ d, n = c + (1 + d) := ⟨n - c - 1, by omega⟩
    rw [cnt_add, cnt_add, cnt_add, cnt_add]
    have far : ∀ a, a < 2048 → a ≠ c → (K.key R s c ≤ K.key R s a ↔ K.key R s c < K.key R s a) := by
      intro a hA hne
      refine ⟨fun h => ?_, fun h => h.le⟩
      rw [key_lt_iff hs ha hA (by omega)]
      rcases Before.total (K.masked R s) hne with k | k
      · exact k
      · exact absurd h (not_le.mpr ((key_lt_iff hs ha (by omega) hA).mpr k))
    rw [cnt_congr (b' := fun a => K.key R s c < K.key R s a) (base := 0) (base' := 0) (n := c) fun i hi => far (0 + i) (by omega) (by omega),
      cnt_congr (b' := fun a => K.key R s c < K.key R s a) (base := 0 + c + 1) (base' := 0 + c + 1) (n := d) fun i hi => far (0 + c + 1 + i) (by omega) (by omega),
      cnt_lt (fun a => K.key R s c ≤ K.key R s a) (0 + c) 1 1 (le_refl _) fun i hi => ?_,
      cnt_lt (fun a => K.key R s c < K.key R s a) (0 + c) 1 0 (Nat.zero_le _) fun i hi => ?_]
    · omega
    · have : 0 + c + i = c := by omega
      rw [this]
      exact ⟨fun h => absurd h (lt_irrefl _), fun h => absurd h (Nat.not_lt_zero _)⟩
    · have : 0 + c + i = c := by omega
      rw [this]
      exact ⟨fun _ => hi, fun _ => le_refl _⟩
  have rank : cnt (fun a => Before (K.masked R s) a c) 0 2048 = p := by
    have e1 : cnt (fun a => Before (K.masked R s) a c) 0 2048 = cnt (fun a => K.key R s c < K.key R s a) 0 2048 :=
      cnt_congr fun i hi => (key_lt_iff hs ha (by omega) (by omega)).symm
    rw [e1, cnt_rest hn]
    · omega
    · intro a h3 h4 h5
      rw [K.key_masked (by omega : R < a)] at h5
      by_cases hcR : c ≤ R
      · have h6 := EReal.coe_lt_coe_iff.mp ((bound_le_key hs (by omega) hcR).trans_lt h5)
        have := K.neg_lt
        have : (0 : ℝ) ≤ a := Nat.cast_nonneg a
        linarith
      · rw [K.key_masked (Nat.not_le.mp hcR), EReal.coe_lt_coe_iff] at h5
        have : (c : ℝ) ≤ a := by exact_mod_cast (by omega : c ≤ a)
        linarith
  have : c = (source (K.masked R s) 2048 ⟨p, by omega⟩).val := by
    refine rank_injective (K.masked R s) (n := 2048) (by omega) (Fin.isLt _) ?_
    rw [rank, source_rank]
  rw [h2, ← this]

end Consts

end Indexer
-- ==== Proof.Start.lean ====
/-
  The keys of a step row by row, and what the step then stores: the values and columns of the stable sort of the row's
  masked scores.
-/
module

public import proofs.«01_k».proof.Proof.Score
public import proofs.«01_k».proof.Proof.NetRow
public import proofs.«01_k».proof.Proof.Keys

@[expose] public section

noncomputable section

namespace Indexer

open Idealize.ShloMosaic Cert.KernelIdeal Cert.KernelIdeal.Gen

theorem neg_word : Ideal.ofBits .f32 0xCE6E6B28#32 = ((-1000000000 : ℝ) : EReal) := by
  simp [Ideal.ofBits, Ideal.ieee, -EReal.coe_mul]; norm_num

theorem bound_word : Ideal.ofBits .f32 0xCE6C08CE#32 = ((-990000000 : ℝ) : EReal) := by
  simp [Ideal.ofBits, Ideal.ieee, -EReal.coe_mul]; norm_num

theorem tiny_word : Ideal.ofBits .f32 0x1E3CE508#32 = ((12379400 * (2 : ℝ) ^ (-90 : ℤ) : ℝ) : EReal) := by
  simp [Ideal.ofBits, Ideal.ieee, -EReal.coe_mul]

theorem step_word : Ideal.ofBits .f32 0x8DA24260#32 = ((-(10633824 * (2 : ℝ) ^ (-123 : ℤ)) : ℝ) : EReal) := by
  simp [Ideal.ofBits, Ideal.ieee, -EReal.coe_mul, -EReal.coe_neg]

theorem far_word : Ideal.ofBits .f32 0x42800000#32 = ((64 : ℝ) : EReal) := by
  simp [Ideal.ofBits, Ideal.ieee, -EReal.coe_mul]; norm_num

theorem zero_word : Ideal.ofBits .f32 0x00000000#32 = 0 := by
  simp [Ideal.ofBits, Ideal.ieee]

/-- The kernel's constants. -/
def consts : Consts where
  neg := -1000000000
  bound := -990000000
  tiny := 12379400 * (2 : ℝ) ^ (-90 : ℤ)
  step := 10633824 * (2 : ℝ) ^ (-123 : ℤ)
  neg_lt := by norm_num
  bound_lt := by norm_num
  tiny_pos := by norm_num
  step_pos := by norm_num
  steps := by norm_num

theorem colsT_row (r : Fin 256) : Cols r colsT := by
  intro p hp
  show BitVec.ofNat 32 (0 * 2048 + p) = BitVec.ofNat 32 p
  rw [Nat.zero_mul, Nat.zero_add]

theorem toInt_small {c : ℕ} (h : c < 2048) : (BitVec.ofNat 32 c).toInt = c := by
  rw [BitVec.toInt_eq_toNat_of_lt (by rw [BitVec.toNat_ofNat]; omega), BitVec.toNat_ofNat, Nat.mod_eq_of_lt (by omega)]

/-- A key is its column's. -/
theorem keysT_row {i : ℕ} (hi : i < 8) (r : Fin 256) {S : FVec Ideal (Tile 2048) .f32} {s : ℕ → EReal} (hS : RowIs r S s) :
    RowIs r (keysT (BitVec.ofNat 32 i) S) (consts.key (256 * i + r.val) s) := by
  intro c hc
  have hcol : colsT (at2 r c hc) = BitVec.ofNat 32 c := colsT_row r c hc
  have hrow : (iota .tc S256x2048 32 [0] iota_S256x2048_d0_w32 : IVec (Tile 2048) 32) (at2 r c hc) = BitVec.ofNat 32 r.val := by
    show BitVec.ofNat 32 (0 * 256 + r.val) = BitVec.ofNat 32 r.val
    rw [Nat.zero_mul, Nat.zero_add]
  have hr := r.isLt
  have hR : BitVec.ofNat 32 r.val + BitVec.ofNat 32 i * 256#32 = BitVec.ofNat 32 (256 * i + r.val) := by
    rw [BitVec.ofNat_mul_ofNat, BitVec.ofNat_add_ofNat]
    congr 1
    omega
  show (if BitVec.ofBool ((colsT (at2 r c hc)).sle ((iota .tc S256x2048 32 [0] iota_S256x2048_d0_w32 : IVec (Tile 2048) 32) (at2 r c hc)
      + BitVec.ofNat 32 i * 256#32)) = 1#1
    then (if BitVec.ofBool (decide (S (at2 r c hc) = Ideal.ofBits .f32 0x00000000#32)) = 1#1
      then (((colsT (at2 r c hc)).toInt : ℝ) : EReal) * Ideal.ofBits .f32 0x8DA24260#32 else S (at2 r c hc))
    else Ideal.ofBits .f32 0xCE6E6B28#32 - Ideal.ofBits .f32 0x42800000#32 * (((colsT (at2 r c hc)).toInt : ℝ) : EReal)) = _
  rw [hcol, hrow, hR, hS c hc, toInt_small hc, zero_word, step_word, neg_word, far_word]
  have hle : BitVec.ofBool ((BitVec.ofNat 32 c).sle (BitVec.ofNat 32 (256 * i + r.val))) = 1#1 ↔ c ≤ 256 * i + r.val := by
    rw [ofBool_one, BitVec.sle_eq_decide, toInt_small hc, toInt_small (by omega), decide_eq_true_iff, Nat.cast_le]
  simp only [hle, ofBool_one, decide_eq_true_iff, Int.cast_natCast]
  rfl

/-- The stored values are the settled keys. -/
theorem settle_row {r : Fin 256} {x : FVec Ideal (Tile 512) .f32} {f : ℕ → EReal} (hx : RowIs r x f) :
    RowIs r (settle x) (fun p => consts.store (f p)) := by
  intro p hp
  show (if BitVec.ofBool (decide (max
        (if BitVec.ofBool (decide (x (at2 r p hp) < Ideal.ofBits .f32 0xCE6C08CE#32)) = 1#1 then Ideal.ofBits .f32 0xCE6E6B28#32 else x (at2 r p hp))
        (-(if BitVec.ofBool (decide (x (at2 r p hp) < Ideal.ofBits .f32 0xCE6C08CE#32)) = 1#1 then Ideal.ofBits .f32 0xCE6E6B28#32 else x (at2 r p hp)))
        < Ideal.ofBits .f32 0x1E3CE508#32)) = 1#1 then Ideal.ofBits .f32 0x00000000#32
      else if BitVec.ofBool (decide (x (at2 r p hp) < Ideal.ofBits .f32 0xCE6C08CE#32)) = 1#1 then Ideal.ofBits .f32 0xCE6E6B28#32
        else x (at2 r p hp)) = consts.store (f p)
  rw [hx p hp, zero_word, neg_word, bound_word, tiny_word]
  simp only [ofBool_one, decide_eq_true_iff]
  rfl

/-- The row of keys with their columns. -/
def keyed (i : ℕ) (r : Fin 256) (s : ℕ → EReal) (p : ℕ) : EReal × BitVec 32 := (consts.key (256 * i + r.val) s p, BitVec.ofNat 32 p)

theorem keyed_row {i : ℕ} (hi : i < 8) (r : Fin 256) {S : FVec Ideal (Tile 2048) .f32} {s : ℕ → EReal} (hS : RowIs r S s) :
    PairIs r (keysT (BitVec.ofNat 32 i) S, colsT) (keyed i r s) := ⟨keysT_row hi r hS, colsT_row r⟩

/-- The column at position `p` of the sorted row. -/
def nth (R : ℕ) (s : ℕ → EReal) (p : ℕ) (hp : p < 512) : ℕ := (source (consts.masked R s) 2048 ⟨p, by omega⟩).val

/-- What a row of a step's results is to be. -/
def RowDone (i : ℕ) (r : Fin 256) (s : ℕ → EReal) (V : FVec Ideal (Tile 512) .f32) (I : IVec (Tile 512) 32) : Prop :=
  consts.Plain (256 * i + r.val) s → ∀ p (hp : p < 512),
    V (at2 r p hp) = consts.masked (256 * i + r.val) s (nth (256 * i + r.val) s p hp) ∧
    (Consts.Apart (256 * i + r.val) s → I (at2 r p hp) = BitVec.ofNat 32 (nth (256 * i + r.val) s p hp))

/-- A network that selects among the columns up to the diagonal gives the sorted row. -/
theorem rowDone {i n : ℕ} {r : Fin 256} {s : ℕ → EReal} {T : FVec Ideal (Tile 512) .f32 × IVec (Tile 512) 32} {t : ℕ → EReal × BitVec 32}
    (hT : PairIs r T t) (hsel : Selects n (keyed i r s) t) (hn : n ≤ 2048) (hk : 512 ≤ n) (hR : 256 * i + r.val < n) :
    RowDone i r s (settle T.1) T.2 := by
  intro hs p hp
  refine ⟨?_, fun ha => ?_⟩
  · rw [settle_row hT.1 p hp]
    exact Consts.values_eq hs hn hk hR (fun _ _ => rfl) hsel hp
  · rw [hT.2 p hp]
    exact Consts.columns_eq (C := fun p => BitVec.ofNat 32 p) hs ha hn hR (fun _ _ => rfl) hsel hp hk

end Indexer
-- ==== Proof.Spec.lean ====
/-
  The scores as plain sums over the extended reals, every array a function of row and column numbers: what one row of the
  kernel and one row of the reference both compute.
-/
module

public import Mathlib.Data.EReal.Operations
public import Mathlib.Algebra.BigOperators.Fin
public import Idealize.ShloMosaic.PureOps.Ideal
public import Idealize.ShloMosaic.Lib.ValueIdxCore

@[expose] public section

noncomputable section

namespace Indexer

open Idealize.ShloMosaic

/-- The entry of an array at a row and a column, zero outside. -/
def ent {n m : ℕ} (x : (⟨2, ![n, m]⟩ : Shape).Idx → EReal) (i j : ℕ) : EReal :=
  if h : i < n ∧ j < m then x (ValueIdx.ix2 ⟨i, h.1⟩ ⟨j, h.2⟩) else 0

theorem ent_eq {n m : ℕ} (x : (⟨2, ![n, m]⟩ : Shape).Idx → EReal) (i : Fin n) (j : Fin m) : x (ValueIdx.ix2 i j) = ent x i.val j.val := by
  unfold ent
  rw [dif_pos ⟨i.isLt, j.isLt⟩]

/-- A row times the rows of a matrix. -/
def rowsProd (K : ℕ) (f : ℕ → EReal) (w : ℕ → ℕ → EReal) (c : ℕ) : EReal := ∑ k : Fin K, f k.val * w c k.val

/-- A row times the columns of a matrix. -/
def colsProd (K : ℕ) (f : ℕ → EReal) (w : ℕ → ℕ → EReal) (c : ℕ) : EReal := ∑ k : Fin K, f k.val * w k.val c

/-- The rotation of the first 64 of 128 entries. -/
def turn (f cs sn : ℕ → EReal) (j : ℕ) : EReal :=
  if j < 64 then f j * cs j + (if j < 32 then -(f (32 + j)) else f (j - 32)) * sn j else f j

/-- The rotation, then the transform. -/
def spread (f cs sn : ℕ → EReal) (H : ℕ → ℕ → EReal) : ℕ → EReal := colsProd 128 (turn f cs sn) H

/-- One head's part of the score of a column. -/
def part (q cs sn w : ℕ → EReal) (H kh : ℕ → ℕ → EReal) (h c : ℕ) : EReal :=
  max (rowsProd 128 (spread (fun p => q (128 * h + p)) cs sn H) kh c * Ideal.ofBits .f32 0x3DB504F3#32) 0 * w h

/-- The score of a column: the heads' parts added up. -/
def score (q cs sn w : ℕ → EReal) (H kh : ℕ → ℕ → EReal) (c : ℕ) : EReal := ∑ h ∈ Finset.range 16, part q cs sn w H kh h c

theorem rowsProd_congr {K : ℕ} {f g : ℕ → EReal} {v w : ℕ → ℕ → EReal} {c : ℕ} (hf : ∀ k < K, f k = g k) (hv : ∀ k < K, v c k = w c k) :
    rowsProd K f v c = rowsProd K g w c := Finset.sum_congr rfl fun k _ => by rw [hf k.val k.isLt, hv k.val k.isLt]

theorem colsProd_congr {K : ℕ} {f g : ℕ → EReal} {v w : ℕ → ℕ → EReal} {c : ℕ} (hf : ∀ k < K, f k = g k) (hv : ∀ k < K, v k c = w k c) :
    colsProd K f v c = colsProd K g w c := Finset.sum_congr rfl fun k _ => by rw [hf k.val k.isLt, hv k.val k.isLt]

theorem turn_congr {f g cs sn : ℕ → EReal} {j : ℕ} (hj : j < 128) (h : ∀ k < 128, f k = g k) : turn f cs sn j = turn g cs sn j := by
  unfold turn
  split
  · split
    · rw [h j hj, h (32 + j) (by omega)]
    · rw [h j hj, h (j - 32) (by omega)]
  · rw [h j hj]

theorem spread_congr {f g cs sn : ℕ → EReal} {H : ℕ → ℕ → EReal} {j : ℕ} (h : ∀ k < 128, f k = g k) :
    spread f cs sn H j = spread g cs sn H j := colsProd_congr (fun k hk => turn_congr hk h) fun _ _ => rfl

end Indexer
-- ==== Proof.Heads.lean ====
/-
  The score kernel's products row by row: the queries, the rotated and transformed head, and the sum over the heads are the
  plain sums.
-/
module

public import proofs.«01_k».proof.Proof.Score
public import proofs.«01_k».proof.Proof.NetRow
public import proofs.«01_k».proof.Proof.Start
public import proofs.«01_k».proof.Proof.Spec
public import Idealize.ShloMosaic.Lib.MatmulPlain
public import Idealize.ShloMosaic.Lib.ValueIdx

@[expose] public section

noncomputable section

namespace Indexer

open Idealize.ShloMosaic Cert.KernelIdeal Cert.KernelIdeal.Gen

theorem at2_eq {n : ℕ} (r : Fin 256) (p : ℕ) (h : p < n) : at2 r p h = ValueIdx.ix2 r ⟨p, h⟩ := by
  funext a; match a with | ⟨0, _⟩ => rfl | ⟨1, _⟩ => rfl

theorem RowIs.congr {α : Type} {n : ℕ} {r : Fin 256} {x : (Tile n).Idx → α} {f g : ℕ → α} (hx : RowIs r x f) (h : ∀ p < n, f p = g p) : RowIs r x g :=
  fun p hp => (hx p hp).trans (h p hp)

/-- A product with the rows of a matrix, row by row. -/
theorem matmul_rows {K N : ℕ} (D : DotDims (Tile K) ⟨2, ![N, K]⟩ (Tile N)) (hD : D = DotDims.transposedRhs 256 K N) {r : Fin 256}
    {x : FVec Ideal (Tile K) .f32} {f : ℕ → EReal} (hx : RowIs r x f) (w : FVec Ideal ⟨2, ![N, K]⟩ .f32) :
    RowIs r (matmul D none x w (constant (Tile N) .f32 0x00000000#32)) (rowsProd K f (ent w)) := by
  intro c hc
  subst hD
  rw [at2_eq]
  refine (Ideal.matmul_transposedRhs_apply none x w _ r ⟨c, hc⟩).trans ?_
  rw [ValueIdx.constant_apply, zero_word, zero_add]
  refine Finset.sum_congr rfl fun k _ => ?_
  rw [← hx k.val k.isLt, at2_eq, ent_eq w]

/-- A product with the columns of a matrix, row by row. -/
theorem matmul_cols {K N : ℕ} (D : DotDims (Tile K) ⟨2, ![K, N]⟩ (Tile N)) (hD : D = DotDims.plain 256 K N) {r : Fin 256}
    {x : FVec Ideal (Tile K) .f32} {f : ℕ → EReal} (hx : RowIs r x f) (w : FVec Ideal ⟨2, ![K, N]⟩ .f32) :
    RowIs r (matmul D none x w (constant (Tile N) .f32 0x00000000#32)) (colsProd K f (ent w)) := by
  intro c hc
  subst hD
  rw [at2_eq]
  refine (Ideal.matmul_plain_apply none x w _ r ⟨c, hc⟩).trans ?_
  rw [ValueIdx.constant_apply, zero_word, zero_add]
  refine Finset.sum_congr rfl fun k _ => ?_
  rw [← hx k.val k.isLt, at2_eq, ent_eq w]

variable {r : Fin 256}

theorem mulf_row {n : ℕ} {x y : FVec Ideal (Tile n) .f32} {f g : ℕ → EReal} (hx : RowIs r x f) (hy : RowIs r y g) :
    RowIs r (mulf x y) (fun p => f p * g p) := fun p hp => congrArg₂ (· * ·) (hx p hp) (hy p hp)

theorem addf_row {n : ℕ} {x y : FVec Ideal (Tile n) .f32} {f g : ℕ → EReal} (hx : RowIs r x f) (hy : RowIs r y g) :
    RowIs r (addf x y) (fun p => f p + g p) := fun p hp => congrArg₂ (· + ·) (hx p hp) (hy p hp)

/-- The queries. -/
theorem queryT_row {qr : Vec Ideal S256x1536 .f32} {f : ℕ → EReal} (hq : RowIs (n := 1536) r qr f) (wq : Vec Ideal S2048x1536 .f32) :
    RowIs r (queryT (F := Ideal) qr wq) (rowsProd 1536 f (ent (n := 2048) (m := 1536) wq)) :=
  matmul_rows dot_S256x1536_S2048x1536_S256x2048_1_1_0_0_n_n rfl hq wq

/-- The rotation. -/
theorem ropeT_row {x : FVec Ideal (Tile 128) .f32} {cos sin : FVec Ideal (Tile 64) .f32} {f cs sn : ℕ → EReal} (hx : RowIs r x f)
    (hc : RowIs r cos cs) (hs : RowIs r sin sn) : RowIs r (ropeT (F := Ideal) x cos sin) (turn f cs sn) := by
  have h1 : RowIs r (cut 64 0 (by decide) x) f := (cut_row (m := 64) (off := 0) (by decide) hx).congr fun p _ => by rw [Nat.zero_add]
  have h2 : RowIs r (cut 32 0 (by decide) (cut 64 0 (by decide) x)) f :=
    (cut_row (m := 32) (off := 0) (by decide) h1).congr fun p _ => by rw [Nat.zero_add]
  have h3 : RowIs r (subf (broadcast (Tile 32) (Scalar.ofBits .f32 0x00000000#32)) (cut 32 32 (by decide) (cut 64 0 (by decide) x)) : FVec Ideal (Tile 32) .f32)
      (fun p => -(f (32 + p))) := fun p hp => by
    show Ideal.ofBits .f32 0x00000000#32 - cut 32 32 (by decide) (cut 64 0 (by decide) x) (at2 r p hp) = _
    rw [cut_row (m := 32) (off := 32) (by decide) h1 p hp, zero_word, zero_sub]
  refine (glue_row rfl (addf_row (mulf_row h1 hc) (mulf_row (glue_row rfl h3 h2) hs)) (cut_row (m := 64) (off := 64) (by decide) hx)).congr fun p hp => ?_
  unfold turn
  by_cases h : p < 64
  · rw [if_pos h, if_pos h]
  · rw [if_neg h, if_neg h]
    show f (64 + (p - 64)) = f p
    congr 1
    omega

/-- The rotation, then the transform. -/
theorem spreadT_row {x : FVec Ideal (Tile 128) .f32} {cos sin : FVec Ideal (Tile 64) .f32} {f cs sn : ℕ → EReal} (hx : RowIs r x f)
    (hc : RowIs r cos cs) (hs : RowIs r sin sn) (had : Vec Ideal S128x128 .f32) :
    RowIs r (spreadT (F := Ideal) x cos sin had) (spread f cs sn (ent (n := 128) (m := 128) had)) :=
  matmul_cols dot_S256x128_S128x128_S256x128_1_0_0_1_n_n rfl (ropeT_row hx hc hs) had

/-- One head's part. -/
theorem headT_row {q : FVec Ideal (Tile 2048) .f32} {cos sin : FVec Ideal (Tile 64) .f32} {wts : Vec Ideal S256x16 .f32} {f cs sn w : ℕ → EReal}
    (hq : RowIs r q f) (hc : RowIs r cos cs) (hs : RowIs r sin sn) (hw : RowIs (n := 16) r wts w) (had : Vec Ideal S128x128 .f32)
    (kh : Vec Ideal S2048x128 .f32) (h : ℕ) (hh : h < 16) :
    RowIs r (headT (F := Ideal) q cos sin wts had kh h hh)
      (part f cs sn w (ent (n := 128) (m := 128) had) (ent (n := 2048) (m := 128) kh) h) := by
  intro c hcc
  have hk : shapeCast S2048x128 kh shapeCasts_S2048x128_S2048x128 = kh := shapeCast_self _ _
  have hv : shapeCast S256x16 wts shapeCasts_S256x16_S256x16 = wts := shapeCast_self _ _
  unfold headT
  rw [hk, hv]
  have m1 := matmul_rows dot_S256x128_S2048x128_S256x2048_1_1_0_0_n_n rfl
    (spreadT_row (cut_row (m := 128) (off := 128 * h) (by omega) hq) hc hs had) kh c hcc
  have m2 : (broadcastTo (Tile 2048) (cut 1 h (by omega) wts) broadcasts_S256x1_S256x2048 : FVec Ideal (Tile 2048) .f32) (at2 r c hcc) = w h := by
    have := cut_row (m := 1) (off := h) (by omega) hw 0 (by decide)
    refine Eq.trans ?_ (this.trans (by show w (h + 0) = w h; rw [Nat.add_zero]))
    show cut 1 h (by omega) wts _ = _
    congr 1
    funext a
    match a with
    | ⟨0, _⟩ => rfl
    | ⟨1, _⟩ => rfl
  refine (congrArg₂ (fun a b : EReal => max (a * Ideal.ofBits .f32 0x3DB504F3#32) (Ideal.ofBits .f32 0x00000000#32) * b) m1 m2).trans ?_
  rw [zero_word]
  rfl

/-- The sum over the heads. -/
theorem headsT_row {q : FVec Ideal (Tile 2048) .f32} {cos sin : FVec Ideal (Tile 64) .f32} {wts : Vec Ideal S256x16 .f32} {f cs sn w : ℕ → EReal}
    (hq : RowIs r q f) (hc : RowIs r cos cs) (hs : RowIs r sin sn) (hw : RowIs (n := 16) r wts w) (had : Vec Ideal S128x128 .f32)
    (kh : Vec Ideal S2048x128 .f32) : ∀ (k : ℕ) (hk : k ≤ 16), RowIs r (headsT (F := Ideal) q cos sin wts had kh k hk)
      (fun c => ∑ h ∈ Finset.range k, part f cs sn w (ent (n := 128) (m := 128) had) (ent (n := 2048) (m := 128) kh) h c)
  | 0, _ => fun c hcc => by
    exact zero_word.trans (Finset.sum_range_zero _).symm
  | k + 1, hk => (addf_row (headsT_row hq hc hs hw had kh k ((Nat.le_succ k).trans hk)) (headT_row hq hc hs hw had kh k hk)).congr fun c _ => by
    rw [Finset.sum_range_succ]

end Indexer
-- ==== Proof.Blocks.lean ====
/-
  The blocks the three calls read, row by row: a window of 256 rows at step `t` holds the rows from `256 * t` on, the
  others hold their whole arrays.
-/
module

public import proofs.«01_k».proof.Proof.Step
public import proofs.«01_k».proof.Proof.Heads
public import proofs.«01_k».proof.Proof.Gen.KernelIdeal.Frame
public import Idealize.ShloMosaic.Lib.Pipeline.ValueKit

@[expose] public section

set_option maxRecDepth 16384

noncomputable section

namespace Indexer

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)

/-- An entry by its coordinates. -/
theorem at_ent {n m : ℕ} (A : (⟨2, ![n, m]⟩ : Shape).Idx → EReal) (j : (⟨2, ![n, m]⟩ : Shape).Idx) (i k : ℕ) (h0 : (j 0).val = i)
    (h1 : (j 1).val = k) : A j = ent A i k := by
  subst h0 h1
  rw [← ent_eq A (j 0) (j 1)]
  exact congrArg A (funext fun a => match a with | ⟨0, _⟩ => rfl | ⟨1, _⟩ => rfl)

/-! The windows' block indices. -/

theorem index0 : ∀ t : Fin cfg0.N, win0_0.index t = ![t.val, 0] ∧ win0_1.index t = ![0, 0] ∧ win0_2.index t = ![0, 0] ∧
    win0_3.index t = ![t.val, 0] ∧ win0_4.index t = ![t.val, 0] := (by decide +kernel : ∀ t : Fin grid0.N, _)

theorem index1 : ∀ t : Fin cfg1.N, win1_0.index t = ![t.val, 0] ∧ win1_1.index t = ![t.val, 0] ∧ win1_2.index t = ![t.val, 0] ∧
    win1_3.index t = ![0, 0] ∧ win1_4.index t = ![t.val, 0] := (by decide +kernel : ∀ t : Fin grid1.N, _)

theorem index2 : ∀ t : Fin cfg2.N, win2_0.index t = ![t.val, 0] ∧ win2_1.index t = ![0, 0] ∧ win2_2.index t = ![t.val, 0] ∧
    win2_3.index t = ![t.val, 0] ∧ win2_4.index t = ![t.val, 0] ∧ win2_5.index t = ![0, 0] ∧ win2_6.index t = ![0, 0] ∧
    win2_7.index t = ![t.val, 0] ∧ win2_8.index t = ![t.val, 0] := (by decide +kernel : ∀ t : Fin grid2.N, _)

variable (V : Held Ideal) (c : Dev nD)

/-- The rows the first call reads. -/
theorem rows0 (t : Fin cfg0.N) (r : Fin 256) :
    RowIs (n := 2048) r (iblk0 V c 0 t) (ent (n := 2048) (m := 2048) (V c main_arg0) (256 * t.val + r.val)) := by
  intro p hp
  blk_simp [iblk0]
  refine at_ent _ _ _ _ ?_ ?_ <;> blk_simp [index0] <;>
    first | exact congrArg (· + r.val) (Nat.mul_comm _ _) | rfl

/-- The matrices the first call reads. -/
theorem whole0 (t : Fin cfg0.N) : iblk0 V c 1 t = V c main_arg5 ∧ iblk0 V c 2 t = V c main_arg6 := by
  refine ⟨funext fun y => ?_, funext fun y => ?_⟩ <;> blk_simp [iblk0] <;>
    refine congrArg (V c _) (Shape.idx_ext₂ ?_ ?_) <;> blk_simp [index0]

/-- The rows the second call reads. -/
theorem rows1 (t : Fin cfg1.N) (r : Fin 256) :
    RowIs (n := 128) r (iblk1 V c 0 t) (ent (n := 2048) (m := 128) (V c main_v20) (256 * t.val + r.val)) ∧
    RowIs (n := 64) r (iblk1 V c 1 t) (ent (n := 2048) (m := 64) (V c main_arg2) (256 * t.val + r.val)) ∧
    RowIs (n := 64) r (iblk1 V c 2 t) (ent (n := 2048) (m := 64) (V c main_arg3) (256 * t.val + r.val)) := by
  refine ⟨fun p hp => ?_, fun p hp => ?_, fun p hp => ?_⟩ <;> blk_simp [iblk1] <;> refine at_ent _ _ _ _ ?_ ?_ <;> blk_simp [index1] <;>
    first | exact congrArg (· + r.val) (Nat.mul_comm _ _) | rfl

/-- The matrix the second call reads. -/
theorem whole1 (t : Fin cfg1.N) : iblk1 V c 3 t = V c main_arg9 := by
  funext y
  blk_simp [iblk1]
  refine congrArg (V c _) (Shape.idx_ext₂ ?_ ?_) <;> blk_simp [index1]

/-- The rows the third call reads. -/
theorem rows2 (t : Fin cfg2.N) (r : Fin 256) :
    RowIs (n := 1536) r (iblk2 V c 0 t) (ent (n := 2048) (m := 1536) (V c main_arg1) (256 * t.val + r.val)) ∧
    RowIs (n := 64) r (iblk2 V c 2 t) (ent (n := 2048) (m := 64) (V c main_arg2) (256 * t.val + r.val)) ∧
    RowIs (n := 64) r (iblk2 V c 3 t) (ent (n := 2048) (m := 64) (V c main_arg3) (256 * t.val + r.val)) ∧
    RowIs (n := 16) r (iblk2 V c 4 t) (ent (n := 2048) (m := 16) (V c main_v0_1) (256 * t.val + r.val)) := by
  refine ⟨fun p hp => ?_, fun p hp => ?_, fun p hp => ?_, fun p hp => ?_⟩ <;> blk_simp [iblk2] <;> refine at_ent _ _ _ _ ?_ ?_ <;>
    blk_simp [index2] <;> first | exact congrArg (· + r.val) (Nat.mul_comm _ _) | rfl

/-- The matrices the third call reads. -/
theorem whole2 (t : Fin cfg2.N) : iblk2 V c 1 t = V c main_arg4 ∧ iblk2 V c 5 t = V c main_arg9 ∧ iblk2 V c 6 t = V c main_v21 := by
  refine ⟨funext fun y => ?_, funext fun y => ?_, funext fun y => ?_⟩ <;> blk_simp [iblk2] <;>
    refine congrArg (V c _) (Shape.idx_ext₂ ?_ ?_) <;> blk_simp [index2]

end Indexer
-- ==== Proof.Done.lean ====
/-
  What the score kernel leaves in its two results: row `R` of the values is the sorted row, wherever the row is plain, and
  row `R` of the indices says where its entries come from, wherever no two entries seen are equal.
-/
module

public import proofs.«01_k».proof.Proof.Blocks

@[expose] public section

set_option maxRecDepth 16384

noncomputable section

namespace Indexer

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)

variable (V : Held Ideal) (c : Dev nD)

/-- The scores of row `R`, from what the arrays hold before the score kernel. -/
def scoreRow (R : ℕ) : ℕ → EReal :=
  score (rowsProd 1536 (ent (n := 2048) (m := 1536) (V c main_arg1) R) (ent (n := 2048) (m := 1536) (V c main_arg4)))
    (ent (n := 2048) (m := 64) (V c main_arg2) R) (ent (n := 2048) (m := 64) (V c main_arg3) R) (ent (n := 2048) (m := 16) (V c main_v0_1) R)
    (ent (n := 128) (m := 128) (V c main_arg9)) (ent (n := 2048) (m := 128) (V c main_v21))

theorem coord2 (t : Fin cfg2.N) : (grid2.coords t 0).val = t.val := (by decide +kernel : ∀ t : Fin grid2.N, (grid2.coords t 0).val = t.val) t

/-- The keys of a step are those of its rows' scores. -/
theorem stepT_row (t : Fin cfg2.N) (r : Fin 256) :
    PairIs r (loadedT V c t, colsT) (keyed t.val r (scoreRow V c (256 * t.val + r.val))) := by
  rw [loadedT_eq]
  unfold stepT startT
  rw [coord2, (whole2 V c t).1, (whole2 V c t).2.1, (whole2 V c t).2.2]
  obtain ⟨h0, h2, h3, h4⟩ := rows2 V c t r
  exact keyed_row (Nat.lt_of_lt_of_eq t.isLt N_2) r (headsT_row (queryT_row h0 _) h2 h3 h4 _ _ 16 (le_refl 16))

/-- Every row of a step is done. -/
theorem step_done (t : Fin cfg2.N) (r : Fin 256) :
    RowDone t.val r (scoreRow V c (256 * t.val + r.val)) (outsAt2 V c t.val t.isLt).1 (outsAt2 V c t.val t.isLt).2 := by
  have ht : t.val < 8 := Nat.lt_of_lt_of_eq t.isLt N_2
  have hr := r.isLt
  have hx := stepT_row V c t r
  have h : t.val % 8 = 0 ∨ t.val % 8 = 1 ∨ t.val % 8 = 2 ∨ t.val % 8 = 3 ∨ t.val % 8 = 4 ∨ t.val % 8 = 5 ∨ t.val % 8 = 6 ∨ t.val % 8 = 7 := by omega
  have d1 : t.val < 2 → RowDone t.val r (scoreRow V c (256 * t.val + r.val)) (settle (topT1 (loadedT V c t) colsT).1) (topT1 (loadedT V c t) colsT).2 :=
    fun h => rowDone (topT1_row (colsT_row r) hx) (top1_selects _) (by decide) (by decide) (by omega)
  have d2 : t.val < 4 → RowDone t.val r (scoreRow V c (256 * t.val + r.val)) (settle (topT2 (loadedT V c t) colsT).1) (topT2 (loadedT V c t) colsT).2 :=
    fun h => rowDone (topT2_row (colsT_row r) hx) (top2_selects _) (by decide) (by decide) (by omega)
  have d3 : t.val < 6 → RowDone t.val r (scoreRow V c (256 * t.val + r.val)) (settle (topT3 (loadedT V c t) colsT).1) (topT3 (loadedT V c t) colsT).2 :=
    fun h => rowDone (topT3_row (colsT_row r) hx) (top3_selects _) (by decide) (by decide) (by omega)
  have d4 : RowDone t.val r (scoreRow V c (256 * t.val + r.val)) (settle (topT4 (loadedT V c t) colsT).1) (topT4 (loadedT V c t) colsT).2 :=
    rowDone (topT4_row (colsT_row r) hx) (top4_selects _) (by decide) (by decide) (by omega)
  rcases h with h | h | h | h | h | h | h | h
  · rw [step_A V c t h]; exact d1 (by omega)
  · rw [step_B V c t h]; exact d1 (by omega)
  · rw [step_C V c t h]; exact d2 (by omega)
  · rw [step_D V c t h]; exact d2 (by omega)
  · rw [step_E V c t h]; exact d3 (by omega)
  · rw [step_F V c t h]; exact d3 (by omega)
  · rw [step_G V c t h]; exact d4
  · rw [step_H V c t h]; exact d4

/-- `v` is the value due at row `R` and position `p`, if the row is plain. -/
def ValueAt (s : ℕ → ℕ → EReal) (R p : ℕ) (v : EReal) : Prop := ∀ hp : p < 512, consts.Plain R (s R) → v = consts.masked R (s R) (nth R (s R) p hp)

/-- `v` is the column due at row `R` and position `p`, if the row is plain and its entries lie apart. -/
def ColumnAt (s : ℕ → ℕ → EReal) (R p : ℕ) (v : BitVec 32) : Prop :=
  ∀ hp : p < 512, consts.Plain R (s R) → Consts.Apart R (s R) → v = BitVec.ofNat 32 (nth R (s R) p hp)

/-- The values the score kernel leaves. -/
theorem final_values (i : S2048x512.Idx) :
    ValueAt (scoreRow V c) (i 0).val (i 1).val (((dat2 V c).arrAt 7 cfg2.N : S2048x512.Idx → EReal) i) := by
  refine (dat2 V c).arrAt_forall_of_covers 7 (fun (i : S2048x512.Idx) (v : EReal) => ValueAt (scoreRow V c) (i 0).val (i 1).val v)
    (by decide +kernel) (fun t hf y => ?_) i
  have e0 : ((((cfg2.win 7).blk t).view.emb y : S2048x512.Idx) 0).val = 256 * t.val + (y 0).val := by
    blk_simp [index2]; exact congrArg (· + (y 0).val) (Nat.mul_comm _ _)
  have e1 : ((((cfg2.win 7).blk t).view.emb y : S2048x512.Idx) 1).val = (y 1).val := by blk_simp [index2]
  dsimp only
  rw [e0, e1]
  blk_simp [after2_7]
  intro hp h
  exact (congrArg _ (eq_at2 (n := 512) y)).trans (step_done V c t (y 0) h (y 1).val hp).1

/-- The columns it leaves. -/
theorem final_columns (i : S2048x512.Idx) :
    ColumnAt (scoreRow V c) (i 0).val (i 1).val (((dat2 V c).arrAt 8 cfg2.N : S2048x512.Idx → BitVec 32) i) := by
  refine (dat2 V c).arrAt_forall_of_covers 8 (fun (i : S2048x512.Idx) (v : BitVec 32) => ColumnAt (scoreRow V c) (i 0).val (i 1).val v)
    (by decide +kernel) (fun t hf y => ?_) i
  have e0 : ((((cfg2.win 8).blk t).view.emb y : S2048x512.Idx) 0).val = 256 * t.val + (y 0).val := by
    blk_simp [index2]; exact congrArg (· + (y 0).val) (Nat.mul_comm _ _)
  have e1 : ((((cfg2.win 8).blk t).view.emb y : S2048x512.Idx) 1).val = (y 1).val := by blk_simp [index2]
  dsimp only
  rw [e0, e1]
  blk_simp [after2_8]
  intro hp h ha
  exact (congrArg _ (eq_at2 (n := 512) y)).trans ((step_done V c t (y 0) h (y 1).val hp).2 ha)

end Indexer
-- ==== Proof.First.lean ====
/-
  What the first two calls leave: the key projection, the heads' weights, and the keys rotated and transformed.
-/
module

public import proofs.«01_k».proof.Proof.Blocks

@[expose] public section

set_option maxRecDepth 16384

noncomputable section

namespace Indexer

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation cellOf)

/-- What a step of the first call writes. -/
theorem out0_eq {F : FTy → Type} [FloatOps F] (x0 : Vec F S256x2048 .f32) (x1 : Vec F S128x2048 .f32) (x2 : Vec F S16x2048 .f32) :
    out0_3 x0 x1 x2 = k0_pay1 x0 x1 ∧ out0_4 x0 x1 x2 = k0_pay2 x0 x2 := by
  unfold out0_3 out0_4 r0_0 r0_1 r0_2 r0_3 r0_4
  rw [View.canon_unit_zero (by decide), View.canon_unit_zero (by decide), View.ld_unit_zero (S := S256x2048) (by decide),
    View.ld_unit_zero (S := S128x2048) (by decide), View.ld_unit_zero (S := S16x2048) (by decide)]
  exact ⟨rfl, rfl⟩

/-- What a step of the second call writes. -/
theorem out1_eq {F : FTy → Type} [FloatOps F] (x0 : Vec F S256x128 .f32) (x1 x2 : Vec F S256x64 .f32) (x3 : Vec F S128x128 .f32) :
    out1_4 x0 x1 x2 x3 = spreadT x0 x1 x2 x3 := by
  unfold out1_4 r1_0 r1_1 r1_2
  rw [View.canon_unit_zero (by decide), View.ld_unit_zero (S := S256x128) (by decide),
    View.ld_unit_zero (S := S256x64) (by decide), View.ld_unit_zero (S := S256x64) (by decide), View.ld_unit_zero (S := S128x128) (by decide)]
  show spreadT (shapeCast S256x128 x0 _) x1 x2 x3 = _
  rw [shapeCast_self]

variable (V : Held Ideal) (c : Dev nD)

/-- The key projection. -/
theorem final_keys (i : S2048x128.Idx) : ((dat0 V c).arrAt 3 cfg0.N : S2048x128.Idx → EReal) i =
    rowsProd 2048 (ent (n := 2048) (m := 2048) (V c main_arg0) (i 0).val) (ent (n := 128) (m := 2048) (V c main_arg5)) (i 1).val := by
  refine (dat0 V c).arrAt_forall_of_covers 3 (fun (i : S2048x128.Idx) (v : EReal) => v =
    rowsProd 2048 (ent (n := 2048) (m := 2048) (V c main_arg0) (i 0).val) (ent (n := 128) (m := 2048) (V c main_arg5)) (i 1).val)
    (by decide +kernel) (fun t hf y => ?_) i
  have e0 : ((((cfg0.win 3).blk t).view.emb y : S2048x128.Idx) 0).val = 256 * t.val + (y 0).val := by
    blk_simp [index0]; exact congrArg (· + (y 0).val) (Nat.mul_comm _ _)
  have e1 : ((((cfg0.win 3).blk t).view.emb y : S2048x128.Idx) 1).val = (y 1).val := by blk_simp [index0]
  dsimp only
  rw [e0, e1]
  blk_simp [after0_3]
  rw [(out0_eq _ _ _).1, (whole0 V c t).1]
  exact (congrArg _ (eq_at2 (n := 128) y)).trans
    (matmul_rows dot_S256x2048_S128x2048_S256x128_1_1_0_0_n_n rfl (rows0 V c t (y 0)) (V c main_arg5) (y 1).val (y 1).isLt)

/-- The heads' weights. -/
theorem final_weights (i : S2048x16.Idx) : ((dat0 V c).arrAt 4 cfg0.N : S2048x16.Idx → EReal) i =
    rowsProd 2048 (ent (n := 2048) (m := 2048) (V c main_arg0) (i 0).val) (ent (n := 16) (m := 2048) (V c main_arg6)) (i 1).val
      * Ideal.ofBits .f32 0x3E800000#32 := by
  refine (dat0 V c).arrAt_forall_of_covers 4 (fun (i : S2048x16.Idx) (v : EReal) => v =
    rowsProd 2048 (ent (n := 2048) (m := 2048) (V c main_arg0) (i 0).val) (ent (n := 16) (m := 2048) (V c main_arg6)) (i 1).val
      * Ideal.ofBits .f32 0x3E800000#32) (by decide +kernel) (fun t hf y => ?_) i
  have e0 : ((((cfg0.win 4).blk t).view.emb y : S2048x16.Idx) 0).val = 256 * t.val + (y 0).val := by
    blk_simp [index0]; exact congrArg (· + (y 0).val) (Nat.mul_comm _ _)
  have e1 : ((((cfg0.win 4).blk t).view.emb y : S2048x16.Idx) 1).val = (y 1).val := by blk_simp [index0]
  dsimp only
  rw [e0, e1]
  blk_simp [after0_4]
  rw [(out0_eq _ _ _).2, (whole0 V c t).2]
  exact (congrArg _ (eq_at2 (n := 16) y)).trans (congrArg (· * Ideal.ofBits .f32 0x3E800000#32)
    (matmul_rows dot_S256x2048_S16x2048_S256x16_1_1_0_0_n_n rfl (rows0 V c t (y 0)) (V c main_arg6) (y 1).val (y 1).isLt))

/-- The keys, rotated and transformed. -/
theorem final_turned (i : S2048x128.Idx) : ((dat1 V c).arrAt 4 cfg1.N : S2048x128.Idx → EReal) i =
    spread (ent (n := 2048) (m := 128) (V c main_v20) (i 0).val) (ent (n := 2048) (m := 64) (V c main_arg2) (i 0).val)
      (ent (n := 2048) (m := 64) (V c main_arg3) (i 0).val) (ent (n := 128) (m := 128) (V c main_arg9)) (i 1).val := by
  refine (dat1 V c).arrAt_forall_of_covers 4 (fun (i : S2048x128.Idx) (v : EReal) => v =
    spread (ent (n := 2048) (m := 128) (V c main_v20) (i 0).val) (ent (n := 2048) (m := 64) (V c main_arg2) (i 0).val)
      (ent (n := 2048) (m := 64) (V c main_arg3) (i 0).val) (ent (n := 128) (m := 128) (V c main_arg9)) (i 1).val)
    (by decide +kernel) (fun t hf y => ?_) i
  have e0 : ((((cfg1.win 4).blk t).view.emb y : S2048x128.Idx) 0).val = 256 * t.val + (y 0).val := by
    blk_simp [index1]; exact congrArg (· + (y 0).val) (Nat.mul_comm _ _)
  have e1 : ((((cfg1.win 4).blk t).view.emb y : S2048x128.Idx) 1).val = (y 1).val := by blk_simp [index1]
  dsimp only
  rw [e0, e1]
  blk_simp [after1_4]
  obtain ⟨h0, h1, h2⟩ := rows1 V c t (y 0)
  rw [out1_eq, whole1 V c t]
  exact (congrArg _ (eq_at2 (n := 128) y)).trans (spreadT_row h0 h1 h2 (V c main_arg9) (y 1).val (y 1).isLt)

end Indexer
-- ==== Proof.Norm.lean ====
/-
  The normalisation of the keys, which kernel and reference both leave to the host: the same lines in both programs.
-/
module

public import proofs.«01_k».proof.Proof.Gen.KernelIdeal.Frame
public import proofs.«01_k».proof.Proof.Gen.ReferenceIdeal.Read

@[expose] public section

set_option maxRecDepth 16384

noncomputable section

namespace Indexer

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- The sum of each row of 128. -/
def sumN (x : FVec F S1x2048x128 .f32) : FVec F S1x2048x1 .f32 :=
  broadcastInDim S1x2048x1 ![0, 1] bcast_S1x2048_S1x2048x1_0_1
    (Host.reduceAdd x (constant S_ .f32 0x00000000#32) reducesTo_S1x2048x128_S1x2048_d2 h_S_)

/-- The mean of each row. -/
def meanN (x : FVec F S1x2048x128 .f32) : FVec F S1x2048x1 .f32 :=
  Host.divf (sumN x) (broadcastInDim S1x2048x1 ![] bcast_S_S1x2048x1 (constant S_ .f32 0x43000000#32))

/-- The rows less their means. -/
def centerN (x : FVec F S1x2048x128 .f32) : FVec F S1x2048x128 .f32 :=
  subf x (broadcastInDim S1x2048x128 ![0, 1, 2] bcast_S1x2048x1_S1x2048x128_0_1_2 (meanN x))

/-- How many entries the variance divides by. -/
def countN : FVec F S_ .f32 := subf (constant S_ .f32 0x43000000#32) (sitofp .f32 (constantI S_ 32 0#32))

/-- The variance of each row. -/
def varN (x : FVec F S1x2048x128 .f32) : FVec F S1x2048x1 .f32 :=
  select (broadcastInDim S1x2048x1 ![] bcast_S_S1x2048x1 (cmpf .ogt (countN (F := F)) (constant S_ .f32 0x00000000#32)))
    (Host.divf (sumN (mulf (centerN x) (centerN x))) (broadcastInDim S1x2048x1 ![] bcast_S_S1x2048x1 countN))
    (broadcastInDim S1x2048x1 ![] bcast_S_S1x2048x1 (constant S_ .f32 0x7FC00000#32))

/-- A vector along every row. -/
def alongN (g : FVec F S128 .f32) : FVec F S1x2048x128 .f32 :=
  broadcastInDim S1x2048x128 ![0, 1, 2] bcast_S1x1x128_S1x2048x128_0_1_2 (broadcastInDim S1x1x128 ![2] bcast_S128_S1x1x128_2 g)

/-- The normalised rows. -/
def normN (x : FVec F S1x2048x128 .f32) (g b : FVec F S128 .f32) : FVec F S1x2048x128 .f32 :=
  addf (mulf (Host.divf (centerN x) (broadcastInDim S1x2048x128 ![0, 1, 2] bcast_S1x2048x1_S1x2048x128_0_1_2
    (Host.sqrt (addf (varN x) (broadcastInDim S1x2048x1 ![] bcast_S_S1x2048x1 (constant S_ .f32 0x358637BD#32)))))) (alongN g)) (alongN b)

/-- The kernel's host lines normalise what the first call left. -/
theorem host_norm (V : Valuation τ sig (Elt F)) :
    StableHlo.after hostOps1_2 (StableHlo.after hostOps1_1 (StableHlo.after hostOps1 V)) (Proc.devRef .tc main_v20) =
      shapeCast S2048x128 (normN (shapeCast S1x2048x128 (V (Proc.devRef .tc main_v0_0)) shapeCasts_S2048x128_S1x2048x128)
        (V (Proc.devRef .tc main_arg7)) (V (Proc.devRef .tc main_arg8))) shapeCasts_S1x2048x128_S2048x128 := by
  after_results_simp
  rfl

/-- The reference's lines are the same ones. -/
theorem ref_norm (x0 : FVec F S2048x2048 .f32) (x5 : FVec F S128x2048 .f32) (x7 x8 : FVec F S128 .f32) :
    Cert.ReferenceIdeal.Read.val_main_v38 (F := F) x0 x5 x7 x8 = normN (Cert.ReferenceIdeal.Read.val_main_v20 (F := F) x0 x5) x7 x8 := rfl

end Indexer
-- ==== Proof.Reference.lean ====
/-
  The reference's scores, read entry by entry: row `R` is `score` of the projected query row, the rotated keys and the
  heads' weights, as in the kernel.
-/
module

public import proofs.«01_k».proof.Proof.Blocks
public import proofs.«01_k».proof.Proof.Norm

@[expose] public section

set_option maxRecDepth 16384

noncomputable section

namespace Indexer

open Cert.ReferenceIdeal Cert.ReferenceIdeal.Gen Cert.ReferenceIdeal.Read
open Idealize.ShloMosaic Idealize.ShloMosaic.TcCoe Idealize.ShloMosaic.Tactic

theorem flat_div {a b c n : ℕ} (ha : a < 1) (hc : c < n) : ((a * 2048 + b) * n + c) / n = b := by
  have h0 : a = 0 := by omega
  rw [h0, Nat.zero_mul, Nat.zero_add, Nat.mul_comm, Nat.mul_add_div (by omega), Nat.div_eq_of_lt hc, Nat.add_zero]

theorem flat_mod {a c n : ℕ} (hc : c < n) : (a * n + c) % n = c := by
  rw [Nat.mul_comm, Nat.mul_add_mod, Nat.mod_eq_of_lt hc]

variable (x0 : FVec Ideal S2048x2048 .f32) (x1 : FVec Ideal S2048x1536 .f32) (x2 x3 : FVec Ideal S2048x64 .f32) (x4 : FVec Ideal S2048x1536 .f32)
  (x5 : FVec Ideal S128x2048 .f32) (x6 : FVec Ideal S16x2048 .f32) (x7 x8 : FVec Ideal S128 .f32) (x9 : FVec Ideal S128x128 .f32)

/-- The projected query row. -/
def queryRow (R : ℕ) : ℕ → EReal := rowsProd 1536 (ent (n := 2048) (m := 1536) x1 R) (ent (n := 2048) (m := 1536) x4)

/-- One head's share of it. -/
def headRow (R h : ℕ) (p : ℕ) : EReal := queryRow x1 x4 R (128 * h + p)

/-- The normalised keys. -/
def keyRow : ℕ → ℕ → EReal :=
  ent (n := 2048) (m := 128) (shapeCast S2048x128 (val_main_v38 (F := Ideal) x0 x5 x7 x8) shapeCasts_S1x2048x128_S2048x128)

/-- The keys rotated and transformed. -/
def turnedRow (R : ℕ) : ℕ → EReal :=
  spread (keyRow x0 x5 x7 x8 R) (ent (n := 2048) (m := 64) x2 R) (ent (n := 2048) (m := 64) x3 R) (ent (n := 128) (m := 128) x9)

/-- The heads' weights. -/
def weightRow (R h : ℕ) : EReal :=
  rowsProd 2048 (ent (n := 2048) (m := 2048) x0 R) (ent (n := 16) (m := 2048) x6) h * Ideal.ofBits .f32 0x3E800000#32

/-- The scores of row `R`. -/
def scores (R : ℕ) : ℕ → EReal :=
  score (queryRow x1 x4 R) (ent (n := 2048) (m := 64) x2 R) (ent (n := 2048) (m := 64) x3 R) (weightRow x0 x6 R) (ent (n := 128) (m := 128) x9)
    (turnedRow x0 x2 x3 x5 x7 x8 x9)

theorem at_v0 (i : S1x2048x2048.Idx) : val_main_v0 (F := Ideal) x0 i = ent (n := 2048) (m := 2048) x0 (i 1).val (i 2).val := by
  rw [val_main_v0_apply]
  exact at_ent _ _ _ _ (flat_div (i 0).isLt (i 2).isLt) (flat_mod (i 2).isLt)

theorem at_v3 (i : S1x2048x2048.Idx) : val_main_v3 (F := Ideal) x1 x4 i = queryRow x1 x4 (i 1).val (i 2).val := by
  rw [val_main_v3_apply]
  unfold queryRow rowsProd
  refine Finset.sum_congr rfl fun k _ => ?_
  rw [val_main_v1_apply, val_main_v2_apply]
  exact congrArg₂ (· * ·) (at_ent _ _ _ _ (flat_div (i 0).isLt k.isLt) (flat_mod k.isLt)) (at_ent _ _ _ _ rfl rfl)

theorem at_v20 (i : S1x2048x128.Idx) : val_main_v20 (F := Ideal) x0 x5 i =
    rowsProd 2048 (ent (n := 2048) (m := 2048) x0 (i 1).val) (ent (n := 128) (m := 2048) x5) (i 2).val := by
  rw [val_main_v20_apply]
  refine Finset.sum_congr rfl fun k _ => ?_
  rw [at_v0, val_main_v19_apply]
  exact congrArg₂ (· * ·) rfl (at_ent _ _ _ _ rfl rfl)

theorem at_v60 (i : S1x2048x16.Idx) : val_main_v60 (F := Ideal) x0 x6 i = weightRow x0 x6 (i 1).val (i 2).val := by
  rw [val_main_v60_apply, val_main_v58_apply, val_main_v59_apply]
  refine congrArg₂ (· * ·) (Finset.sum_congr rfl fun k _ => ?_) rfl
  rw [at_v0, val_main_v57_apply]
  exact congrArg₂ (· * ·) rfl (at_ent _ _ _ _ rfl rfl)

theorem at_v4 (i : S1x2048x16x128.Idx) : val_main_v4 (F := Ideal) x1 x4 i = headRow x1 x4 (i 1).val (i 2).val (i 3).val := by
  have h0 : (i 0).val < 1 := (i 0).isLt
  have h1 : (i 1).val < 2048 := (i 1).isLt
  have h2 : (i 2).val < 16 := (i 2).isLt
  have h3 : (i 3).val < 128 := (i 3).isLt
  rw [val_main_v4_apply, at_v3]
  exact congrArg₂ (queryRow x1 x4) (by dsimp only; omega) (by dsimp only; omega)

/-- The rotated query, head by head. -/
theorem at_v18 (i : S1x2048x16x128.Idx) : val_main_v18 (F := Ideal) x1 x2 x3 x4 i =
    turn (headRow x1 x4 (i 1).val (i 2).val) (ent (n := 2048) (m := 64) x2 (i 1).val) (ent (n := 2048) (m := 64) x3 (i 1).val) (i 3).val := by
  have v5 : ∀ j : S1x2048x16x64.Idx, val_main_v5 (F := Ideal) x1 x4 j = headRow x1 x4 (j 1).val (j 2).val (j 3).val := fun j => by
    rw [val_main_v5_apply, at_v4]
  have v8 : ∀ j : S1x2048x16x32.Idx, val_main_v8 (F := Ideal) x1 x4 j = headRow x1 x4 (j 1).val (j 2).val (j 3).val := fun j => by
    rw [val_main_v8_apply, v5]
  have v10 : ∀ j : S1x2048x16x32.Idx, val_main_v10 (F := Ideal) x1 x4 j = -(headRow x1 x4 (j 1).val (j 2).val (32 + (j 3).val)) := fun j => by
    rw [val_main_v10_apply, val_main_v9_apply, v5]; rfl
  have v17 : ∀ j : S1x2048x16x64.Idx, val_main_v17 (F := Ideal) x1 x4 j = headRow x1 x4 (j 1).val (j 2).val (64 + (j 3).val) := fun j => by
    rw [val_main_v17_apply, at_v4]
  have v11 : ∀ j : S1x2048x16x64.Idx, val_main_v11 (F := Ideal) x1 x4 j =
      if (j 3).val < 32 then -(headRow x1 x4 (j 1).val (j 2).val (32 + (j 3).val)) else headRow x1 x4 (j 1).val (j 2).val ((j 3).val - 32) := fun j => by
    have hj : (j 3).val < 64 := (j 3).isLt
    unfold val_main_v11
    split
    · rename_i h
      refine (concatenate_pair_apply_left (s₁ := S1x2048x16x32) (s₂ := S1x2048x16x32) _ _ _ _ j rfl
        (fun a => match a with | ⟨0, _⟩ => j 0 | ⟨1, _⟩ => j 1 | ⟨2, _⟩ => j 2 | ⟨3, _⟩ => ⟨(j 3).val, h⟩ : S1x2048x16x32.Idx)
        (fun b => match b with | ⟨0, _⟩ => rfl | ⟨1, _⟩ => rfl | ⟨2, _⟩ => rfl | ⟨3, _⟩ => rfl)).trans (v10 _)
    · rename_i h
      refine (concatenate_pair_apply_right (s₁ := S1x2048x16x32) (s₂ := S1x2048x16x32) _ _ _ _ j rfl rfl
        (fun a => match a with | ⟨0, _⟩ => j 0 | ⟨1, _⟩ => j 1 | ⟨2, _⟩ => j 2 | ⟨3, _⟩ => ⟨(j 3).val - 32, by show (j 3).val - 32 < 32; omega⟩ : S1x2048x16x32.Idx)
        (fun b => match b with | ⟨0, _⟩ => fun _ => rfl | ⟨1, _⟩ => fun _ => rfl | ⟨2, _⟩ => fun _ => rfl | ⟨3, _⟩ => fun hb => absurd rfl hb)
        (by show (j 3).val - 32 + 32 = (j 3).val; omega)).trans (v8 _)
  have v16 : ∀ j : S1x2048x16x64.Idx, val_main_v16 (F := Ideal) x1 x2 x3 x4 j =
      turn (headRow x1 x4 (j 1).val (j 2).val) (ent (n := 2048) (m := 64) x2 (j 1).val) (ent (n := 2048) (m := 64) x3 (j 1).val) (j 3).val := fun j => by
    have hj : (j 3).val < 64 := (j 3).isLt
    rw [val_main_v16_apply, val_main_v13_apply, val_main_v15_apply, v5, v11, val_main_v12_apply, val_main_v14_apply, val_main_v6_apply, val_main_v7_apply]
    unfold turn
    rw [if_pos hj]
    exact congrArg₂ (fun a b : EReal => _ * a + _ * b) (at_ent x2 _ _ _ rfl rfl) (at_ent x3 _ _ _ rfl rfl)
  have hi : (i 3).val < 128 := (i 3).isLt
  unfold val_main_v18
  by_cases h : (i 3).val < 64
  · exact (concatenate_pair_apply_left (s₁ := S1x2048x16x64) (s₂ := S1x2048x16x64) _ _ _ _ i rfl
      (fun a => match a with | ⟨0, _⟩ => i 0 | ⟨1, _⟩ => i 1 | ⟨2, _⟩ => i 2 | ⟨3, _⟩ => ⟨(i 3).val, h⟩ : S1x2048x16x64.Idx)
      (fun b => match b with | ⟨0, _⟩ => rfl | ⟨1, _⟩ => rfl | ⟨2, _⟩ => rfl | ⟨3, _⟩ => rfl)).trans (v16 _)
  · refine ((concatenate_pair_apply_right (s₁ := S1x2048x16x64) (s₂ := S1x2048x16x64) _ _ _ _ i rfl rfl
      (fun a => match a with | ⟨0, _⟩ => i 0 | ⟨1, _⟩ => i 1 | ⟨2, _⟩ => i 2 | ⟨3, _⟩ => ⟨(i 3).val - 64, by show (i 3).val - 64 < 64; omega⟩ : S1x2048x16x64.Idx)
      (fun b => match b with | ⟨0, _⟩ => fun _ => rfl | ⟨1, _⟩ => fun _ => rfl | ⟨2, _⟩ => fun _ => rfl | ⟨3, _⟩ => fun hb => absurd rfl hb)
      (by show (i 3).val - 64 + 64 = (i 3).val; omega)).trans (v17 _)).trans ?_
    unfold turn
    rw [if_neg h]
    exact congrArg (headRow x1 x4 (i 1).val (i 2).val) (by show 64 + ((i 3).val - 64) = (i 3).val; omega)

/-- The rotated keys. -/
theorem at_v50 (i : S1x2048x128.Idx) : val_main_v50 (F := Ideal) x0 x2 x3 x5 x7 x8 i =
    turn (keyRow x0 x5 x7 x8 (i 1).val) (ent (n := 2048) (m := 64) x2 (i 1).val) (ent (n := 2048) (m := 64) x3 (i 1).val) (i 2).val := by
  have v38 : ∀ j : S1x2048x128.Idx, val_main_v38 (F := Ideal) x0 x5 x7 x8 j = keyRow x0 x5 x7 x8 (j 1).val (j 2).val := fun j => by
    have h0 : (j 0).val < 1 := (j 0).isLt
    unfold keyRow
    rw [← ent_eq (n := 2048) (m := 128) _ (j 1) (j 2)]
    refine (shapeCast_apply _ _ _ j ?_).symm
    rw [Shape.rowMajor_val_two, Shape.rowMajor_val_three]
    show ((j 0).val * 2048 + (j 1).val) * 128 + (j 2).val = (j 1).val * 128 + (j 2).val
    omega
  have v39 : ∀ j : S1x2048x64.Idx, val_main_v39 (F := Ideal) x0 x5 x7 x8 j = keyRow x0 x5 x7 x8 (j 1).val (j 2).val := fun j => by
    rw [val_main_v39_apply, v38]
  have v42 : ∀ j : S1x2048x32.Idx, val_main_v42 (F := Ideal) x0 x5 x7 x8 j = keyRow x0 x5 x7 x8 (j 1).val (j 2).val := fun j => by
    rw [val_main_v42_apply, v39]
  have v44 : ∀ j : S1x2048x32.Idx, val_main_v44 (F := Ideal) x0 x5 x7 x8 j = -(keyRow x0 x5 x7 x8 (j 1).val (32 + (j 2).val)) := fun j => by
    rw [val_main_v44_apply, val_main_v43_apply, v39]; rfl
  have v49 : ∀ j : S1x2048x64.Idx, val_main_v49 (F := Ideal) x0 x5 x7 x8 j = keyRow x0 x5 x7 x8 (j 1).val (64 + (j 2).val) := fun j => by
    rw [val_main_v49_apply, v38]
  have v45 : ∀ j : S1x2048x64.Idx, val_main_v45 (F := Ideal) x0 x5 x7 x8 j =
      if (j 2).val < 32 then -(keyRow x0 x5 x7 x8 (j 1).val (32 + (j 2).val)) else keyRow x0 x5 x7 x8 (j 1).val ((j 2).val - 32) := fun j => by
    have hj : (j 2).val < 64 := (j 2).isLt
    unfold val_main_v45
    split
    · rename_i h
      refine (concatenate_pair_apply_left (s₁ := S1x2048x32) (s₂ := S1x2048x32) _ _ _ _ j rfl
        (fun a => match a with | ⟨0, _⟩ => j 0 | ⟨1, _⟩ => j 1 | ⟨2, _⟩ => ⟨(j 2).val, h⟩ : S1x2048x32.Idx)
        (fun b => match b with | ⟨0, _⟩ => rfl | ⟨1, _⟩ => rfl | ⟨2, _⟩ => rfl)).trans (v44 _)
    · rename_i h
      refine (concatenate_pair_apply_right (s₁ := S1x2048x32) (s₂ := S1x2048x32) _ _ _ _ j rfl rfl
        (fun a => match a with | ⟨0, _⟩ => j 0 | ⟨1, _⟩ => j 1 | ⟨2, _⟩ => ⟨(j 2).val - 32, by show (j 2).val - 32 < 32; omega⟩ : S1x2048x32.Idx)
        (fun b => match b with | ⟨0, _⟩ => fun _ => rfl | ⟨1, _⟩ => fun _ => rfl | ⟨2, _⟩ => fun hb => absurd rfl hb)
        (by show (j 2).val - 32 + 32 = (j 2).val; omega)).trans (v42 _)
  have v48 : ∀ j : S1x2048x64.Idx, val_main_v48 (F := Ideal) x0 x2 x3 x5 x7 x8 j =
      turn (keyRow x0 x5 x7 x8 (j 1).val) (ent (n := 2048) (m := 64) x2 (j 1).val) (ent (n := 2048) (m := 64) x3 (j 1).val) (j 2).val := fun j => by
    have hj : (j 2).val < 64 := (j 2).isLt
    rw [val_main_v48_apply, val_main_v46_apply, val_main_v47_apply, v39, v45, val_main_v40_apply, val_main_v41_apply]
    unfold turn
    rw [if_pos hj]
    exact congrArg₂ (fun a b : EReal => _ * a + _ * b) (at_ent x2 _ _ _ rfl rfl) (at_ent x3 _ _ _ rfl rfl)
  have hi : (i 2).val < 128 := (i 2).isLt
  unfold val_main_v50
  by_cases h : (i 2).val < 64
  · exact (concatenate_pair_apply_left (s₁ := S1x2048x64) (s₂ := S1x2048x64) _ _ _ _ i rfl
      (fun a => match a with | ⟨0, _⟩ => i 0 | ⟨1, _⟩ => i 1 | ⟨2, _⟩ => ⟨(i 2).val, h⟩ : S1x2048x64.Idx)
      (fun b => match b with | ⟨0, _⟩ => rfl | ⟨1, _⟩ => rfl | ⟨2, _⟩ => rfl)).trans (v48 _)
  · refine ((concatenate_pair_apply_right (s₁ := S1x2048x64) (s₂ := S1x2048x64) _ _ _ _ i rfl rfl
      (fun a => match a with | ⟨0, _⟩ => i 0 | ⟨1, _⟩ => i 1 | ⟨2, _⟩ => ⟨(i 2).val - 64, by show (i 2).val - 64 < 64; omega⟩ : S1x2048x64.Idx)
      (fun b => match b with | ⟨0, _⟩ => fun _ => rfl | ⟨1, _⟩ => fun _ => rfl | ⟨2, _⟩ => fun hb => absurd rfl hb)
      (by show (i 2).val - 64 + 64 = (i 2).val; omega)).trans (v49 _)).trans ?_
    unfold turn
    rw [if_neg h]
    exact congrArg (keyRow x0 x5 x7 x8 (i 1).val) (by show 64 + ((i 2).val - 64) = (i 2).val; omega)

/-- The query rotated and transformed, head by head. -/
theorem at_v53 (i : S1x2048x16x128.Idx) : val_main_v53 (F := Ideal) x1 x2 x3 x4 x9 i =
    spread (headRow x1 x4 (i 1).val (i 2).val) (ent (n := 2048) (m := 64) x2 (i 1).val) (ent (n := 2048) (m := 64) x3 (i 1).val)
      (ent (n := 128) (m := 128) x9) (i 3).val := by
  have h0 : (i 0).val < 1 := (i 0).isLt
  have h1 : (i 1).val < 2048 := (i 1).isLt
  have h2 : (i 2).val < 16 := (i 2).isLt
  have h3 : (i 3).val < 128 := (i 3).isLt
  rw [val_main_v53_apply, val_main_v52_apply]
  unfold spread colsProd
  refine Finset.sum_congr rfl fun k _ => ?_
  have hk := k.isLt
  rw [val_main_v51_apply, at_v18]
  refine congrArg₂ (· * ·) ?_ (at_ent _ _ _ _ rfl ?_)
  · have e1 : (idx_main_v51 (lidx_main_v52 (idx_main_v53 i) k) 1).val = (i 1).val := by dsimp only; omega
    have e2 : (idx_main_v51 (lidx_main_v52 (idx_main_v53 i) k) 2).val = (i 2).val := by dsimp only; omega
    have e3 : (idx_main_v51 (lidx_main_v52 (idx_main_v53 i) k) 3).val = k.val := by dsimp only; omega
    rw [e1, e2, e3]
  · dsimp only; omega

/-- The keys rotated and transformed. -/
theorem at_v56 (i : S1x2048x128.Idx) : val_main_v56 (F := Ideal) x0 x2 x3 x5 x7 x8 x9 i = turnedRow x0 x2 x3 x5 x7 x8 x9 (i 1).val (i 2).val := by
  have h0 : (i 0).val < 1 := (i 0).isLt
  have h1 : (i 1).val < 2048 := (i 1).isLt
  have h2 : (i 2).val < 128 := (i 2).isLt
  rw [val_main_v56_apply, val_main_v55_apply]
  unfold turnedRow spread colsProd
  refine Finset.sum_congr rfl fun k _ => ?_
  have hk := k.isLt
  rw [val_main_v54_apply, at_v50]
  refine congrArg₂ (· * ·) ?_ (at_ent _ _ _ _ rfl ?_)
  · have e1 : (idx_main_v54 (lidx_main_v55 (idx_main_v56 i) k) 1).val = (i 1).val := by dsimp only; omega
    have e2 : (idx_main_v54 (lidx_main_v55 (idx_main_v56 i) k) 2).val = k.val := by dsimp only; omega
    rw [e1, e2]
  · dsimp only; omega

/-- The reference's scores. -/
theorem at_v65 (i : S1x2048x2048.Idx) : val_main_v65 (F := Ideal) x0 x1 x2 x3 x4 x5 x6 x7 x8 x9 i =
    scores x0 x1 x2 x3 x4 x5 x6 x7 x8 x9 (i 1).val (i 2).val := by
  rw [val_main_v65_apply]
  unfold scores score
  rw [Finset.sum_range]
  refine Finset.sum_congr rfl fun k _ => ?_
  rw [at_v60, val_main_v64_apply, val_main_v63_apply, val_main_v61_apply, val_main_v62_apply, val_main_call1_v0_apply, mul_comm]
  refine congrArg₂ (· * ·) (congrArg₂ max (congrArg₂ (· * ·) (Finset.sum_congr rfl fun l _ => ?_) rfl) zero_word) rfl
  rw [at_v53, at_v56]
  rfl

end Indexer
-- ==== Proof.Results.lean ====
/-
  The reference's two results, entry by entry: the rows of masked scores in the order of `source`, and where each entry
  comes from.
-/
module

public import proofs.«01_k».proof.Proof.Reference

@[expose] public section

set_option maxRecDepth 16384

noncomputable section

namespace Indexer

open Cert.ReferenceIdeal Cert.ReferenceIdeal.Gen Cert.ReferenceIdeal.Read
open Idealize.ShloMosaic Idealize.ShloMosaic.TcCoe Idealize.ShloMosaic.Tactic

/-- The position a result's entry has in its row. -/
abbrev pos (j : S1x2048x512.Idx) : Fin 2048 := ⟨(j 2).val, Nat.lt_trans (j 2).isLt (by decide)⟩

/-- The first 512 of every row, sorted by "greater", and where they come from. -/
theorem topK_row (x : S1x2048x2048.Idx → EReal) (f : ℕ → ℕ → EReal) (hx : ∀ i : S1x2048x2048.Idx, x i = f (i 1).val (i 2).val) (j : S1x2048x512.Idx) :
    (Host.topK S1x2048x512 2 (FloatOps.cmpfTotal (F := Ideal) (φ := .f32) .gt) x sliceFits_S1x2048x2048_S1x2048x512).1 j
      = f (j 1).val (source (f (j 1).val) 2048 (pos j)).val ∧
    (Host.topK S1x2048x512 2 (FloatOps.cmpfTotal (F := Ideal) (φ := .f32) .gt) x sliceFits_S1x2048x2048_S1x2048x512).2 j
      = BitVec.ofNat 32 (source (f (j 1).val) 2048 (pos j)).val := by
  let J : S1x2048x2048.Idx := fun a => match a with | ⟨0, _⟩ => j 0 | ⟨1, _⟩ => j 1 | ⟨2, _⟩ => pos j
  have hJ : (fun a : Fin S1x2048x2048.rank => (⟨0 + (j (a.cast sliceFits_S1x2048x2048_S1x2048x512.1.symm)).val,
      Nat.lt_of_lt_of_le (Nat.add_lt_add_left (j (a.cast sliceFits_S1x2048x2048_S1x2048x512.1.symm)).isLt 0)
        (sliceFits_S1x2048x2048_S1x2048x512.2 a)⟩ : Fin (S1x2048x2048.size a))) = J := by
    funext a
    match a with
    | ⟨0, _⟩ => exact Fin.ext (Nat.zero_add _)
    | ⟨1, _⟩ => exact Fin.ext (Nat.zero_add _)
    | ⟨2, _⟩ => exact Fin.ext (Nat.zero_add _)
  have hal : ∀ k : Fin 2048, x (J.along 2 k) = f (j 1).val k.val := fun k => (hx _).trans rfl
  have hs : (sortedFrom (fun k k' : Fin 2048 => FloatOps.cmpfTotal (F := Ideal) (φ := .f32) .gt (x (J.along 2 k)) (x (J.along 2 k')) == 1#1) (J 2))
      = source (f (j 1).val) 2048 (pos j) := by
    unfold source
    refine congrArg (fun b => sortedFrom b (pos j)) (funext fun k => funext fun k' => ?_)
    rw [hal, hal]
    unfold greater
    show (BitVec.ofBool (decide (f (j 1).val k'.val < f (j 1).val k.val)) == 1#1) = _
    cases decide (f (j 1).val k'.val < f (j 1).val k.val) <;> rfl
  constructor
  · refine Eq.trans ?_ (hal _)
    rw [← hs, ← hJ]
    rfl
  · have hi : ∀ k : Fin 2048, iotaInDim S1x2048x2048 32 2 (J.along 2 k) = BitVec.ofNat 32 k.val := fun k =>
      congrArg (BitVec.ofNat 32) (congrArg Fin.val (Function.update_self (β := fun a : Fin S1x2048x2048.rank => Fin (S1x2048x2048.size a)) 2 k J))
    refine Eq.trans ?_ (hi _)
    rw [← hs, ← hJ]
    rfl

variable (x0 : FVec Ideal S2048x2048 .f32) (x1 : FVec Ideal S2048x1536 .f32) (x2 x3 : FVec Ideal S2048x64 .f32) (x4 : FVec Ideal S2048x1536 .f32)
  (x5 : FVec Ideal S128x2048 .f32) (x6 : FVec Ideal S16x2048 .f32) (x7 x8 : FVec Ideal S128 .f32) (x9 : FVec Ideal S128x128 .f32)

/-- The masked scores. -/
theorem at_v74 (i : S1x2048x2048.Idx) : val_main_v74 (F := Ideal) x0 x1 x2 x3 x4 x5 x6 x7 x8 x9 i =
    consts.masked (i 1).val (scores x0 x1 x2 x3 x4 x5 x6 x7 x8 x9 (i 1).val) (i 2).val := by
  have h1 : (i 1).val < 2048 := (i 1).isLt
  have h2 : (i 2).val < 2048 := (i 2).isLt
  rw [val_main_v74_apply, at_v65, val_main_v73_apply, val_main_v72_apply, val_main_v70_apply, val_main_v71_apply, val_main_v69_apply, val_main_v67_apply,
    val_main_call2_v1_apply]
  show (if BitVec.ofBool ((BitVec.ofNat 32 (i 2).val).sle (BitVec.ofNat 32 (i 1).val)) = 1#1
    then scores x0 x1 x2 x3 x4 x5 x6 x7 x8 x9 (i 1).val (i 2).val else Ideal.ofBits .f32 0xCE6E6B28#32) = _
  have hle : BitVec.ofBool ((BitVec.ofNat 32 (i 2).val).sle (BitVec.ofNat 32 (i 1).val)) = 1#1 ↔ (i 2).val ≤ (i 1).val := by
    rw [ofBool_one, BitVec.sle_eq_decide, toInt_small h2, toInt_small h1, decide_eq_true_iff, Nat.cast_le]
  simp only [hle, neg_word]
  rfl

/-- The masked scores of row `R`. -/
def maskedScores (R : ℕ) : ℕ → EReal := consts.masked R (scores x0 x1 x2 x3 x4 x5 x6 x7 x8 x9 R)

theorem ref_values (j : S1x2048x512.Idx) : val_main_values (F := Ideal) x0 x1 x2 x3 x4 x5 x6 x7 x8 x9 j =
    consts.masked (j 1).val (scores x0 x1 x2 x3 x4 x5 x6 x7 x8 x9 (j 1).val)
      (nth (j 1).val (scores x0 x1 x2 x3 x4 x5 x6 x7 x8 x9 (j 1).val) (j 2).val (j 2).isLt) :=
  (topK_row _ (maskedScores x0 x1 x2 x3 x4 x5 x6 x7 x8 x9) (at_v74 x0 x1 x2 x3 x4 x5 x6 x7 x8 x9) j).1

theorem ref_indices (j : S1x2048x512.Idx) : val_main_indices (F := Ideal) x0 x1 x2 x3 x4 x5 x6 x7 x8 x9 j =
    BitVec.ofNat 32 (nth (j 1).val (scores x0 x1 x2 x3 x4 x5 x6 x7 x8 x9 (j 1).val) (j 2).val (j 2).isLt) :=
  (topK_row _ (maskedScores x0 x1 x2 x3 x4 x5 x6 x7 x8 x9) (at_v74 x0 x1 x2 x3 x4 x5 x6 x7 x8 x9) j).2

end Indexer
-- ==== Proof.Same.lean ====
/-
  The scores the third call works on are the reference's: its keys are the reference's keys normalised, rotated and
  transformed, its weights the reference's weights.
-/
module

public import proofs.«01_k».proof.Proof.Done
public import proofs.«01_k».proof.Proof.First
public import proofs.«01_k».proof.Proof.Norm
public import proofs.«01_k».proof.Proof.Results

@[expose] public section

set_option maxRecDepth 16384

noncomputable section

namespace Indexer

open Cert.KernelIdeal Cert.KernelIdeal.Gen
open Idealize.ShloMosaic Idealize.ShloMosaic.TcCoe Idealize.ShloMosaic.Tactic

/-! ## Scores that agree on the columns there are -/

theorem score_congr {q cs sn w w' : ℕ → EReal} {H kh kh' : ℕ → ℕ → EReal} {c : ℕ} (hk : ∀ k < 128, kh c k = kh' c k) (hw : ∀ h < 16, w h = w' h) :
    score q cs sn w H kh c = score q cs sn w' H kh' c := by
  refine Finset.sum_congr rfl fun h hh => ?_
  unfold part
  rw [hw h (Finset.mem_range.mp hh), rowsProd_congr (fun _ _ => rfl) hk]

variable {R : ℕ} {s s' : ℕ → EReal}

theorem plain_congr (hR : R < 2048) (h : ∀ c < 2048, s c = s' c) (hs : consts.Plain R s') : consts.Plain R s := fun c hc => by
  rw [h c (by omega)]
  exact hs c hc

theorem apart_congr (hR : R < 2048) (h : ∀ c < 2048, s c = s' c) (hs : Consts.Apart R s') : Consts.Apart R s := fun a b hab hb e => by
  rw [h a (by omega), h b (by omega)] at e
  rw [h a (by omega)]
  exact hs a b hab hb e

theorem masked_congr (h : ∀ c < 2048, s c = s' c) {c : ℕ} (hc : c < 2048) : consts.masked R s c = consts.masked R s' c := by
  unfold Consts.masked
  rw [h c hc]

theorem nth_congr (h : ∀ c < 2048, s c = s' c) (p : ℕ) (hp : p < 512) : nth R s p hp = nth R s' p hp := by
  have e : greater (consts.masked R s) 2048 = greater (consts.masked R s') 2048 := by
    funext k k'
    unfold greater
    rw [masked_congr h k.isLt, masked_congr h k'.isLt]
  unfold nth source
  rw [e]

theorem nth_lt (p : ℕ) (hp : p < 512) : nth R s p hp < 2048 := (source (consts.masked R s) 2048 ⟨p, by omega⟩).isLt

/-! ## The kernel's arrays -/

variable (m : (ℓ : Loc nD τ sig) → Buf (Elt Ideal) ℓ) (ρ : Dev nD → PrngReg) (c : Dev nD)

/-- An argument's contents at launch. -/
abbrev arg (b : Ref sig .tc) : Buf (Elt Ideal) ((c : Thread nD τ).loc b) := m ((c : Thread nD τ).loc b)

/-- The first call's keys, with the leading axis the host gives them. -/
theorem keys_eq : shapeCast S1x2048x128 (W1 m ρ c (Proc.devRef .tc main_v0_0) : S2048x128.Idx → EReal) shapeCasts_S2048x128_S1x2048x128 =
    Cert.ReferenceIdeal.Read.val_main_v20 (F := Ideal) (arg m c main_arg0) (arg m c main_arg5) := by
  funext i
  have h0 : (i 0).val < 1 := (i 0).isLt
  refine (shapeCast_apply _ _ i (ValueIdx.ix2 (i 1) (i 2)) ?_).trans ?_
  · rw [Shape.rowMajor_val_two, Shape.rowMajor_val_three]
    show (i 1).val * 128 + (i 2).val = ((i 0).val * 2048 + (i 1).val) * 128 + (i 2).val
    omega
  · exact ((congrFun (W1_arr m ρ c 3) _).trans (final_keys (V0 m ρ) c _)).trans (at_v20 _ _ i).symm

/-- The normalised keys the second call reads. -/
theorem normed_eq : (V4 m ρ c main_v20 : S2048x128.Idx → EReal) =
    shapeCast S2048x128 (Cert.ReferenceIdeal.Read.val_main_v38 (F := Ideal) (arg m c main_arg0) (arg m c main_arg5) (arg m c main_arg7) (arg m c main_arg8))
      shapeCasts_S1x2048x128_S2048x128 := by
  refine (host_norm (W1 m ρ c)).trans ?_
  rw [keys_eq, ref_norm, W1_args m ρ c main_arg7 (by decide), W1_args m ρ c main_arg8 (by decide)]

/-- The keys the third call reads. -/
theorem turned_eq (C k : ℕ) (hC : C < 2048) (hk : k < 128) : ent (n := 2048) (m := 128) (V5 m ρ c main_v21) C k =
    turnedRow (arg m c main_arg0) (arg m c main_arg2) (arg m c main_arg3) (arg m c main_arg5) (arg m c main_arg7) (arg m c main_arg8) (arg m c main_arg9) C k := by
  refine (ent_eq (n := 2048) (m := 128) (V5 m ρ c main_v21) ⟨C, hC⟩ ⟨k, hk⟩).symm.trans ?_
  refine ((congrFun (W5_arr m ρ c 4) _).trans (final_turned (V4 m ρ) c (ValueIdx.ix2 ⟨C, hC⟩ ⟨k, hk⟩))).trans ?_
  unfold turnedRow keyRow
  rw [← normed_eq m ρ c]
  rw [show V4 m ρ c main_arg2 = arg m c main_arg2 from W4_args m ρ c main_arg2 (by decide),
    show V4 m ρ c main_arg3 = arg m c main_arg3 from W4_args m ρ c main_arg3 (by decide),
    show V4 m ρ c main_arg9 = arg m c main_arg9 from W4_args m ρ c main_arg9 (by decide)]

/-- The weights the third call reads. -/
theorem weights_eq (C h : ℕ) (hC : C < 2048) (hh : h < 16) : ent (n := 2048) (m := 16) (V5 m ρ c main_v0_1) C h =
    weightRow (arg m c main_arg0) (arg m c main_arg6) C h := by
  have e : V5 m ρ c main_v0_1 = W1 m ρ c (Proc.devRef .tc main_v0_1) :=
    (W5_of m ρ c main_v0_1 (by decide)).trans ((W4_of m ρ c main_v0_1 (by decide)).trans
      ((W3_of m ρ c main_v0_1 (by decide)).trans (W2_of m ρ c main_v0_1 (by decide))))
  rw [e]
  refine (ent_eq (n := 2048) (m := 16) _ ⟨C, hC⟩ ⟨h, hh⟩).symm.trans ?_
  exact (congrFun (W1_arr m ρ c 4) _).trans (final_weights (V0 m ρ) c (ValueIdx.ix2 ⟨C, hC⟩ ⟨h, hh⟩))

/-- The reference's scores of the kernel's arguments. -/
def refScores (R : ℕ) : ℕ → EReal :=
  scores (arg m c main_arg0) (arg m c main_arg1) (arg m c main_arg2) (arg m c main_arg3) (arg m c main_arg4) (arg m c main_arg5) (arg m c main_arg6)
    (arg m c main_arg7) (arg m c main_arg8) (arg m c main_arg9) R

theorem scores_eq (R C : ℕ) (hR : R < 2048) (hC : C < 2048) : scoreRow (V5 m ρ) c R C = refScores m c R C := by
  unfold scoreRow
  rw [show V5 m ρ c main_arg1 = arg m c main_arg1 from W5_args m ρ c main_arg1 (by decide),
    show V5 m ρ c main_arg2 = arg m c main_arg2 from W5_args m ρ c main_arg2 (by decide),
    show V5 m ρ c main_arg3 = arg m c main_arg3 from W5_args m ρ c main_arg3 (by decide),
    show V5 m ρ c main_arg4 = arg m c main_arg4 from W5_args m ρ c main_arg4 (by decide),
    show V5 m ρ c main_arg9 = arg m c main_arg9 from W5_args m ρ c main_arg9 (by decide)]
  exact score_congr (fun k hk => turned_eq m ρ c C k hC hk) (fun h hh => weights_eq m ρ c R h hR hh)

/-! ## The kernel's results -/

/-- The two results with their leading axis. -/
theorem results_eq : (W7 m ρ c (Proc.devRef .tc main_v23) = shapeCast S1x2048x512 (W6 m ρ c (Proc.devRef .tc main_v22_0) : S2048x512.Idx → EReal) shapeCasts_S2048x512_S1x2048x512) ∧
    W7 m ρ c (Proc.devRef .tc main_v24) = shapeCast S1x2048x512 (W6 m ρ c (Proc.devRef .tc main_v22_1) : S2048x512.Idx → BitVec 32) shapeCasts_S2048x512_S1x2048x512 := by
  constructor
  · show StableHlo.after hostOps3 (W6 m ρ c) (Proc.devRef .tc main_v23) = _
    generalize W6 m ρ c = V
    after_results_simp
    rfl
  · show StableHlo.after hostOps3 (W6 m ρ c) (Proc.devRef .tc main_v24) = _
    generalize W6 m ρ c = V
    after_results_simp
    rfl

theorem read_result {α : Type} (y : S2048x512.Idx → α) (i : S1x2048x512.Idx) :
    shapeCast S1x2048x512 y shapeCasts_S2048x512_S1x2048x512 i = y (ValueIdx.ix2 (i 1) (i 2)) := by
  have h0 : (i 0).val < 1 := (i 0).isLt
  refine shapeCast_apply _ _ i (ValueIdx.ix2 (i 1) (i 2)) ?_
  rw [Shape.rowMajor_val_two, Shape.rowMajor_val_three]
  show (i 1).val * 512 + (i 2).val = ((i 0).val * 2048 + (i 1).val) * 512 + (i 2).val
  omega

theorem kernel_value (i : S1x2048x512.Idx) (h : consts.Plain (i 1).val (refScores m c (i 1).val)) :
    (W7 m ρ c (Proc.devRef .tc main_v23) : S1x2048x512.Idx → EReal) i =
      consts.masked (i 1).val (refScores m c (i 1).val) (nth (i 1).val (refScores m c (i 1).val) (i 2).val (i 2).isLt) := by
  have h1 : (i 1).val < 2048 := (i 1).isLt
  have hs : ∀ C < 2048, scoreRow (V5 m ρ) c (i 1).val C = refScores m c (i 1).val C := fun C hC => scores_eq m ρ c _ C h1 hC
  have hv := final_values (V5 m ρ) c (ValueIdx.ix2 (i 1) (i 2)) (i 2).isLt (plain_congr h1 hs h)
  refine ((congrFun (results_eq m ρ c).1 i).trans (read_result _ i)).trans (((congrFun (W6_arr m ρ c 7) _).trans hv).trans ?_)
  exact (masked_congr hs (nth_lt _ _)).trans (congrArg _ (nth_congr hs _ _))

theorem kernel_column (i : S1x2048x512.Idx) (h : consts.Plain (i 1).val (refScores m c (i 1).val)) (ha : Consts.Apart (i 1).val (refScores m c (i 1).val)) :
    (W7 m ρ c (Proc.devRef .tc main_v24) : S1x2048x512.Idx → BitVec 32) i =
      BitVec.ofNat 32 (nth (i 1).val (refScores m c (i 1).val) (i 2).val (i 2).isLt) := by
  have h1 : (i 1).val < 2048 := (i 1).isLt
  have hs : ∀ C < 2048, scoreRow (V5 m ρ) c (i 1).val C = refScores m c (i 1).val C := fun C hC => scores_eq m ρ c _ C h1 hC
  have hv := final_columns (V5 m ρ) c (ValueIdx.ix2 (i 1) (i 2)) (i 2).isLt (plain_congr h1 hs h) (apart_congr h1 hs ha)
  refine ((congrFun (results_eq m ρ c).2 i).trans (read_result _ i)).trans (((congrFun (W6_arr m ρ c 8) _).trans hv).trans ?_)
  exact congrArg _ (nth_congr hs _ _)

end Indexer
-- ==== Proof.Mask.lean ====
/-
  The mask of `algebraic`: a row of values it selects holds plain scores only, a row of indices it selects moreover holds
  no score twice, zero apart.
-/
module

public import proofs.«01_k».proof.Proof.Results
public import proofs.«01_k».proof.On_rows_compared
public import Idealize.ShloMosaic.Lib.ReduceAll

@[expose] public section

set_option maxRecDepth 16384

noncomputable section

namespace Indexer

open Cert.On_rows_compared Cert.On_rows_compared.Facts
open Idealize.ShloMosaic Idealize.ShloMosaic.TcCoe Idealize.ShloMosaic.Tactic

/-- The side conditions of the mask's operations. -/
theorem maskFacts : Cert.On_rows_compared.Facts := by
  constructor <;> decide

variable [Cert.On_rows_compared.Facts]

/-- The mask is computed from the reference's own scores. -/
theorem mask_scores {F : FTy → Type} [FloatOps F] (x0 : FVec F S2048x2048 .f32) (x1 : FVec F S2048x1536 .f32) (x2 x3 : FVec F S2048x64 .f32)
    (x4 : FVec F S2048x1536 .f32) (x5 : FVec F S128x2048 .f32) (x6 : FVec F S16x2048 .f32) (x7 x8 : FVec F S128 .f32) (x9 : FVec F S128x128 .f32) :
    fn x0 x1 x2 x3 x4 x5 x6 x7 x8 x9 = fn_part3 (Cert.ReferenceIdeal.Read.val_main_v65 x0 x1 x2 x3 x4 x5 x6 x7 x8 x9) := rfl

variable (x : FVec Ideal S1x2048x2048 .f32)

/-- The scores without their leading axis. -/
def flat : FVec Ideal S2048x2048 .f32 := shapeCast S2048x2048 x shapeCasts_S1x2048x2048_S2048x2048

/-- A constant everywhere. -/
def fill (w : BitVec 32) : FVec Ideal S2048x2048 .f32 := broadcastInDim S2048x2048 ![] bcast_S_S2048x2048 (constant S_ .f32 w)

/-- Where a score is plain, or behind the diagonal. -/
def plainBits : IVec S2048x2048 1 :=
  ori (ori (cmpf .oeq (flat x) (fill 0x00000000#32))
      (andi (cmpf .oge (Host.absf (flat x)) (fill 0x1E3CE508#32)) (cmpf .oge (flat x) (fill 0xCE6C08CE#32))))
    (noti (cmpi .sle (iotaInDim S2048x2048 32 1) (iotaInDim S2048x2048 32 0)))

/-- Row, first column, second column: where the two scores differ, or are zero, or are not a pair to compare. -/
def apartBits : IVec S2048x2048x2048 1 :=
  let a := broadcastInDim S2048x2048x2048 ![0, 1] bcast_S2048x2048_S2048x2048x2048_0_1 (flat x)
  let b := broadcastInDim S2048x2048x2048 ![0, 2] bcast_S2048x2048_S2048x2048x2048_0_2 (flat x)
  ori (ori (ori (cmpf .une a b) (cmpf .oeq a (broadcastInDim S2048x2048x2048 ![] bcast_S_S2048x2048x2048 (constant S_ .f32 0x00000000#32))))
      (cmpi .sge (iotaInDim S2048x2048x2048 32 1) (iotaInDim S2048x2048x2048 32 2)))
    (cmpi .sgt (iotaInDim S2048x2048x2048 32 2) (iotaInDim S2048x2048x2048 32 0))

/-- The rows whose values count. -/
def valueRows : IVec S2048 1 := Host.reduce IntOp.andi (plainBits x) (constantI S_ 1 1#1) reducesTo_S2048x2048_S2048_d1 h_S_

/-- The rows without a repeated score. -/
def apartRows : IVec S2048 1 := Host.reduce IntOp.andi (apartBits x) (constantI S_ 1 1#1) reducesTo_S2048x2048x2048_S2048_d1_2 h_S_

theorem mask_eq : fn_part3 x = (broadcastInDim S1x2048x512 ![1] bcast_S2048_S1x2048x512_1 (valueRows x),
    broadcastInDim S1x2048x512 ![1] bcast_S2048_S1x2048x512_1 (andi (valueRows x) (apartRows x))) := rfl

variable {x} {f : ℕ → ℕ → EReal} (hx : ∀ i : S1x2048x2048.Idx, x i = f (i 1).val (i 2).val)

include hx

theorem flat_at (i : S2048x2048.Idx) : flat x i = f (i 0).val (i 1).val := by
  refine (shapeCast_apply _ _ i (fun a => match a with | ⟨0, _⟩ => (0 : Fin 1) | ⟨1, _⟩ => i 0 | ⟨2, _⟩ => i 1 : S1x2048x2048.Idx) ?_).trans (hx _)
  rw [Shape.rowMajor_val_two, Shape.rowMajor_val_three]
  show (0 * 2048 + (i 0).val) * 2048 + (i 1).val = (i 0).val * 2048 + (i 1).val
  omega

omit hx in
theorem drop_two {j : S2048.Idx} (i : S2048x2048.Idx) (h : (j 0).val = (i 0).val) : reducesTo_S2048x2048_S2048_d1.drop i = j := by
  funext b
  obtain rfl : b = (0 : Fin 1) := Subsingleton.elim _ _
  exact Fin.ext ((Shape.ReducesTo.drop_apply_val_of_eq reducesTo_S2048x2048_S2048_d1 i (0 : Fin 1) 0).trans h.symm)

omit hx in
theorem drop_three {j : S2048.Idx} (i : S2048x2048x2048.Idx) (h : (j 0).val = (i 0).val) : reducesTo_S2048x2048x2048_S2048_d1_2.drop i = j := by
  funext b
  obtain rfl : b = (0 : Fin 1) := Subsingleton.elim _ _
  exact Fin.ext ((Shape.ReducesTo.drop_apply_val_of_eq reducesTo_S2048x2048x2048_S2048_d1_2 i (0 : Fin 1) 0).trans h.symm)

omit [Cert.On_rows_compared.Facts] hx in
/-- A comparison of columns. -/
theorem sle_col {a b : ℕ} (ha : a < 2048) (hb : b < 2048) : IntOp.cmpi .sle (BitVec.ofNat 32 a) (BitVec.ofNat 32 b) = 1#1 ↔ a ≤ b := by
  rw [IntOp.cmpi_sle, toInt_small ha, toInt_small hb, Nat.cast_le]

theorem plain_of_row {R : Fin 2048} {j : S2048.Idx} (hj : (j 0).val = R.val) (h : valueRows x j = 1#1) : consts.Plain R.val (f R.val) := by
  intro c hc
  have hc' : c < 2048 := lt_of_le_of_lt hc R.isLt
  have hb : plainBits x (ValueIdx.ix2 R ⟨c, hc'⟩) = 1#1 := Host.reduce_andi_eq_one _ _ _ _ _ h (ValueIdx.ix2 R ⟨c, hc'⟩)
    (drop_two _ hj)
  have hf : flat x (ValueIdx.ix2 R ⟨c, hc'⟩) = f R.val c := flat_at hx _
  have hb' : IntOp.ori (IntOp.ori (BitVec.ofBool (decide (flat x (ValueIdx.ix2 R ⟨c, hc'⟩) = Ideal.ofBits .f32 0x00000000#32)))
      (IntOp.andi (BitVec.ofBool (decide (Ideal.ofBits .f32 0x1E3CE508#32 ≤ max (flat x (ValueIdx.ix2 R ⟨c, hc'⟩)) (-(flat x (ValueIdx.ix2 R ⟨c, hc'⟩))))))
        (BitVec.ofBool (decide (Ideal.ofBits .f32 0xCE6C08CE#32 ≤ flat x (ValueIdx.ix2 R ⟨c, hc'⟩))))))
      (~~~ (IntOp.cmpi .sle (BitVec.ofNat 32 c) (BitVec.ofNat 32 R.val))) = 1#1 := hb
  rw [IntOp.ori_eq_one, IntOp.ori_eq_one, IntOp.andi_eq_one, IntOp.not_eq_one, sle_col hc' R.isLt, ofBool_one, ofBool_one, ofBool_one,
    decide_eq_true_iff, decide_eq_true_iff, decide_eq_true_iff, hf, zero_word, tiny_word, bound_word] at hb'
  rcases hb' with (h0 | h1) | h2
  · exact .inl h0
  · exact .inr h1
  · exact absurd hc h2

theorem apart_of_row {R : Fin 2048} {j : S2048.Idx} (hj : (j 0).val = R.val) (h : apartRows x j = 1#1) : Consts.Apart R.val (f R.val) := by
  intro a b hab hbR heq
  have hb' : b < 2048 := lt_of_le_of_lt hbR R.isLt
  have ha' : a < 2048 := lt_trans hab hb'
  let i : S2048x2048x2048.Idx := fun d => match d with | ⟨0, _⟩ => R | ⟨1, _⟩ => (⟨a, ha'⟩ : Fin 2048) | ⟨2, _⟩ => (⟨b, hb'⟩ : Fin 2048)
  have hb : apartBits x i = 1#1 := Host.reduce_andi_eq_one _ _ _ _ _ h i
    (drop_three _ hj)
  have hfa : flat x (ValueIdx.ix2 R ⟨a, ha'⟩) = f R.val a := flat_at hx _
  have hfb : flat x (ValueIdx.ix2 R ⟨b, hb'⟩) = f R.val b := flat_at hx _
  have ea : broadcastInDim S2048x2048x2048 ![0, 1] bcast_S2048x2048_S2048x2048x2048_0_1 (flat x) i = f R.val a :=
    (congrArg (flat x) (by funext d; match d with | ⟨0, _⟩ => rfl | ⟨1, _⟩ => rfl)).trans hfa
  have eb : broadcastInDim S2048x2048x2048 ![0, 2] bcast_S2048x2048_S2048x2048x2048_0_2 (flat x) i = f R.val b :=
    (congrArg (flat x) (by funext d; match d with | ⟨0, _⟩ => rfl | ⟨1, _⟩ => rfl)).trans hfb
  have hc : IntOp.ori (IntOp.ori (IntOp.ori
      (BitVec.ofBool (decide (broadcastInDim S2048x2048x2048 ![0, 1] bcast_S2048x2048_S2048x2048x2048_0_1 (flat x) i ≠
        broadcastInDim S2048x2048x2048 ![0, 2] bcast_S2048x2048_S2048x2048x2048_0_2 (flat x) i)))
      (BitVec.ofBool (decide (broadcastInDim S2048x2048x2048 ![0, 1] bcast_S2048x2048_S2048x2048x2048_0_1 (flat x) i = Ideal.ofBits .f32 0x00000000#32))))
      (IntOp.cmpi .sge (BitVec.ofNat 32 a) (BitVec.ofNat 32 b))) (IntOp.cmpi .sgt (BitVec.ofNat 32 b) (BitVec.ofNat 32 R.val)) = 1#1 := hb
  rw [ea, eb, IntOp.ori_eq_one, IntOp.ori_eq_one, IntOp.ori_eq_one, ofBool_one, ofBool_one, decide_eq_true_iff, decide_eq_true_iff, IntOp.cmpi_sge,
    IntOp.cmpi_sgt, toInt_small ha', toInt_small hb', toInt_small R.isLt, Nat.cast_le, Nat.cast_lt, zero_word] at hc
  rcases hc with ((h0 | h1) | h2) | h3
  · exact absurd heq h0
  · exact h1
  · exact absurd hab (Nat.not_lt.mpr h2)
  · exact absurd h3 (Nat.not_lt.mpr hbR)

/-- The row of an index into the results. -/
abbrev rowOf (i : S1x2048x512.Idx) : S2048.Idx := fun a => match a with | ⟨0, _⟩ => i 1

omit hx in
/-- A row's bit along the row. -/
theorem along_row (y : IVec S2048 1) (i : S1x2048x512.Idx) : broadcastInDim S1x2048x512 ![1] bcast_S2048_S1x2048x512_1 y i = y (rowOf i) :=
  congrArg y (by funext a; match a with | ⟨0, _⟩ => rfl)

omit hx in
theorem mask_at (i : S1x2048x512.Idx) : (fn_part3 x).1 i = valueRows x (rowOf i) ∧
    (fn_part3 x).2 i = IntOp.andi (valueRows x (rowOf i)) (apartRows x (rowOf i)) := by
  rw [mask_eq]
  generalize valueRows x = v
  generalize apartRows x = a
  exact ⟨along_row v i, along_row (andi v a) i⟩

/-- A value the mask selects lies in a row of plain scores. -/
theorem plain_of_mask {i : S1x2048x512.Idx} (h : (fn_part3 x).1 i = 1#1) : consts.Plain (i 1).val (f (i 1).val) :=
  plain_of_row hx (R := (i 1 : Fin 2048)) (j := rowOf i) rfl ((mask_at i).1.symm.trans h)

/-- A column the mask selects lies in a row of plain scores without repetition. -/
theorem apart_of_mask {i : S1x2048x512.Idx} (h : (fn_part3 x).2 i = 1#1) :
    consts.Plain (i 1).val (f (i 1).val) ∧ Consts.Apart (i 1).val (f (i 1).val) := by
  have h' := IntOp.andi_eq_one.mp ((mask_at i).2.symm.trans h)
  exact ⟨plain_of_row hx (R := (i 1 : Fin 2048)) (j := rowOf i) rfl h'.1, apart_of_row hx (R := (i 1 : Fin 2048)) (j := rowOf i) rfl h'.2⟩

end Indexer
-- ==== Proof.lean ====
/-
  The claims: the three programs run and leave their arguments as they were, the kernel and its ideal form are the same
  program, and on the rows the mask selects the kernel's two results over the extended reals are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Ends
public import proofs.«01_k».proof.Proof.Same
public import proofs.«01_k».proof.Proof.Mask

@[expose] public section

set_option maxRecDepth 16384

noncomputable section

namespace Cert.Proof

open Idealize.ShloMosaic Idealize.SL.Sem Idealize.ShloMosaic.TcCoe

/-- The reference runs, leaves its arguments and has no counter to reset. -/
theorem frame_reference : Cert.quiescent_ReferenceIdeal := fun m ρ _ =>
  (θ_run _ _ _).mono (fun r h => ⟨fun c => (h c).2.2, sem_eq_zero_of_no_sems (by decide) r.2⟩) (Cert.ReferenceIdeal.Value.run m ρ)

section Algebraic

open Cert.KernelIdeal Cert.KernelIdeal.Gen Indexer

variable [Cert.On_rows_compared.Facts]
variable (m : (ℓ : Loc nD τ sig) → Buf (Elt Ideal) ℓ) (ρ : Dev nD → PrngReg) (c : Dev nD)

/-- The mask at the kernel's arguments. -/
abbrev mask : IVec S1x2048x512 1 × IVec S1x2048x512 1 :=
  Cert.On_rows_compared.fn (F := Ideal) (arg m c main_arg0) (arg m c main_arg1) (arg m c main_arg2) (arg m c main_arg3) (arg m c main_arg4)
    (arg m c main_arg5) (arg m c main_arg6) (arg m c main_arg7) (arg m c main_arg8) (arg m c main_arg9)

/-- The reference's values at the kernel's arguments. -/
def values : S1x2048x512.Idx → EReal :=
  Cert.ReferenceIdeal.Read.val_main_values (F := Ideal) (arg m c main_arg0) (arg m c main_arg1) (arg m c main_arg2) (arg m c main_arg3) (arg m c main_arg4)
    (arg m c main_arg5) (arg m c main_arg6) (arg m c main_arg7) (arg m c main_arg8) (arg m c main_arg9)

/-- The reference's indices at the kernel's arguments. -/
def indices : S1x2048x512.Idx → BitVec 32 :=
  Cert.ReferenceIdeal.Read.val_main_indices (F := Ideal) (arg m c main_arg0) (arg m c main_arg1) (arg m c main_arg2) (arg m c main_arg3) (arg m c main_arg4)
    (arg m c main_arg5) (arg m c main_arg6) (arg m c main_arg7) (arg m c main_arg8) (arg m c main_arg9)

/-- Where the mask selects a value, the kernel's is the reference's. -/
theorem value_eq (i : S1x2048x512.Idx) (h : (mask m c).1 i = 1#1) :
    (W7 m ρ c (Proc.devRef .tc main_v23) : S1x2048x512.Idx → EReal) i = values m c i := by
  have h' := plain_of_mask (at_v65 _ _ _ _ _ _ _ _ _ _) ((congrArg (fun p => p.1 i) (mask_scores _ _ _ _ _ _ _ _ _ _)).symm.trans h)
  exact (kernel_value m ρ c i h').trans (ref_values _ _ _ _ _ _ _ _ _ _ i).symm

/-- Where the mask selects an index, the kernel's is the reference's. -/
theorem index_eq (i : S1x2048x512.Idx) (h : (mask m c).2 i = 1#1) :
    (W7 m ρ c (Proc.devRef .tc main_v24) : S1x2048x512.Idx → BitVec 32) i = indices m c i := by
  have h' := apart_of_mask (at_v65 _ _ _ _ _ _ _ _ _ _) ((congrArg (fun p => p.2 i) (mask_scores _ _ _ _ _ _ _ _ _ _)).symm.trans h)
  exact (kernel_column m ρ c i h'.1 h'.2).trans (ref_indices _ _ _ _ _ _ _ _ _ _ i).symm

/-- What the kernel's run ends with. -/
theorem kernel_run : θ_run defs (onTc (τ := τ) (main (F := Ideal))) ⟨m, fun _ => 0, ρ⟩ (fun r => ∀ c : Dev nD,
    (∀ i : S1x2048x512.Idx, (mask m c).1 i = 1#1 → (r.2.mem ((c.tc : Thread nD τ).loc main_v23) : S1x2048x512.Idx → EReal) i = values m c i)
    ∧ (∀ i : S1x2048x512.Idx, (mask m c).2 i = 1#1 → (r.2.mem ((c.tc : Thread nD τ).loc main_v24) : S1x2048x512.Idx → BitVec 32) i = indices m c i)
    ∧ ∀ a ∈ argRefs, r.2.mem ((c.tc : Thread nD τ).loc a) = m ((c.tc : Thread nD τ).loc a)) :=
  (θ_run defs _ _).mono (fun r h c =>
    ⟨fun i hi => (congrFun (h c _ (mem_uc main_v23 (by decide))) i).trans (value_eq m ρ c i hi),
     fun i hi => (congrFun (h c _ (mem_uc main_v24 (by decide))) i).trans (index_eq m ρ c i hi),
     fun a ha => (h c _ (mem_uc a ((by decide : ∀ a ∈ argRefs, ¬(Proc.tc.devRef a).isScoped = true) a ha))).trans (W7_args m ρ c a ha)⟩) (kernel_ends m ρ)

/-- On the rows the mask selects, the kernel's results are the reference's. -/
theorem algebraic : Cert.algebraic_KernelIdeal_ReferenceIdeal_on_rows_compared := by
  intro m ρ m' ρ' _ hargs
  refine ⟨fun c => values m c, fun c => indices m c, (θ_run _ _ _).mono (fun r h c => ?_) (kernel_run m ρ),
    (θ_run _ _ _).mono (fun r h c => ?_) (Cert.ReferenceIdeal.Value.run m' ρ')⟩
  · have hA := (h c).2.2
    exact ⟨(h c).1, (h c).2.1, hA _ (by decide), hA _ (by decide), hA _ (by decide), hA _ (by decide), hA _ (by decide), hA _ (by decide),
      hA _ (by decide), hA _ (by decide), hA _ (by decide), hA _ (by decide)⟩
  · obtain ⟨e0, e1, e2, e3, e4, e5, e6, e7, e8, e9⟩ := hargs c
    have hv := (h c).1.trans (Cert.ReferenceIdeal.Read.val_main_values_eq m' c)
    have hi := (h c).2.1.trans (Cert.ReferenceIdeal.Read.val_main_indices_eq m' c)
    rw [e0, e1, e2, e3, e4, e5, e6, e7, e8, e9] at hv hi
    exact ⟨fun i _ => congrFun hv i, fun i _ => congrFun hi i, (h c).2.2⟩

end Algebraic

/-- The certificate's claims. -/
theorem claim : Cert.Claim :=
  ⟨Cert.Kernel.Gen.facts, Cert.KernelIdeal.Gen.facts, Cert.ReferenceIdeal.Gen.facts, Indexer.maskFacts,
    fun m ρ _ => Cert.Kernel.Gen.frame m ρ, fun m ρ _ => Cert.KernelIdeal.Gen.frame m ρ, frame_reference, trivial,
    @algebraic Indexer.maskFacts⟩

end Cert.Proof

end
